-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x8192 : Shape := ⟨2, ![4096, 8192]⟩
abbrev S4096x512 : Shape := ⟨2, ![4096, 512]⟩
abbrev S2x4096x512 : Shape := ⟨3, ![2, 4096, 512]⟩
abbrev S2x256x512 : Shape := ⟨3, ![2, 256, 512]⟩
abbrev S2 : Shape := ⟨1, ![2]⟩
abbrev S16 : Shape := ⟨1, ![16]⟩
abbrev S_ : Shape := ⟨0, ![]⟩
abbrev S1 : Shape := ⟨1, ![1]⟩
abbrev S1x4096x512 : Shape := ⟨3, ![1, 4096, 512]⟩
abbrev S256x512 : Shape := ⟨2, ![256, 512]⟩
abbrev S1x256x512 : Shape := ⟨3, ![1, 256, 512]⟩

abbrev nBuf : Space → Nat
  | .hbm => 3
  | .vmem => 4
  | .smem => 0
  | _ => 0

abbrev bufTy : (tb : Table) → Fin (tcTables nBuf tb) → BufTy
  | .hbm, ⟨0, _⟩ => ⟨S256x4096, .f32⟩
  | .hbm, ⟨1, _⟩ => ⟨S4096x8192, .f32⟩
  | .hbm, ⟨2, _⟩ => ⟨S4096x512, .f32⟩
  | .local _ .vmem, ⟨0, _⟩ => ⟨S256x4096, .f32⟩
  | .local _ .vmem, ⟨1, _⟩ => ⟨S4096x512, .f32⟩
  | .local _ .vmem, ⟨2, _⟩ => ⟨S2x4096x512, .f32⟩
  | .local _ .vmem, ⟨3, _⟩ => ⟨S2x256x512, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  v14.toNat
def k0_dev2 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v15 : BitVec 32 := Scalar.addi v2 c2_i32
  let c16_i32_7 : BitVec 32 := 16#32
  let c0_i32_8 : BitVec 32 := 0#32
  let v16 : BitVec 1 := Scalar.cmpi .eq c16_i32_7 c0_i32_8
  let c1_i32_9 : BitVec 32 := 1#32
  let v17 : BitVec 32 := Scalar.select v16 c1_i32_9 c16_i32_7
  let v18 : BitVec 32 := Scalar.remsi v15 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  v25.toNat
def k0_dev3 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v26 : BitVec 32 := Scalar.addi v2 c3_i32
  let c16_i32_14 : BitVec 32 := 16#32
  let c0_i32_15 : BitVec 32 := 0#32
  let v27 : BitVec 1 := Scalar.cmpi .eq c16_i32_14 c0_i32_15
  let c1_i32_16 : BitVec 32 := 1#32
  let v28 : BitVec 32 := Scalar.select v27 c1_i32_16 c16_i32_14
  let v29 : BitVec 32 := Scalar.remsi v26 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  v36.toNat
def k0_dev4 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v37 : BitVec 32 := Scalar.addi v2 c4_i32
  let c16_i32_21 : BitVec 32 := 16#32
  let c0_i32_22 : BitVec 32 := 0#32
  let v38 : BitVec 1 := Scalar.cmpi .eq c16_i32_21 c0_i32_22
  let c1_i32_23 : BitVec 32 := 1#32
  let v39 : BitVec 32 := Scalar.select v38 c1_i32_23 c16_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  v47.toNat
def k0_dev5 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v48 : BitVec 32 := Scalar.addi v2 c5_i32
  let c16_i32_28 : BitVec 32 := 16#32
  let c0_i32_29 : BitVec 32 := 0#32
  let v49 : BitVec 1 := Scalar.cmpi .eq c16_i32_28 c0_i32_29
  let c1_i32_30 : BitVec 32 := 1#32
  let v50 : BitVec 32 := Scalar.select v49 c1_i32_30 c16_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  v58.toNat
def k0_dev6 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v59 : BitVec 32 := Scalar.addi v2 c6_i32
  let c16_i32_35 : BitVec 32 := 16#32
  let c0_i32_36 : BitVec 32 := 0#32
  let v60 : BitVec 1 := Scalar.cmpi .eq c16_i32_35 c0_i32_36
  let c1_i32_37 : BitVec 32 := 1#32
  let v61 : BitVec 32 := Scalar.select v60 c1_i32_37 c16_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  v69.toNat
def k0_dev7 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v70 : BitVec 32 := Scalar.addi v2 c7_i32
  let c16_i32_42 : BitVec 32 := 16#32
  let c0_i32_43 : BitVec 32 := 0#32
  let v71 : BitVec 1 := Scalar.cmpi .eq c16_i32_42 c0_i32_43
  let c1_i32_44 : BitVec 32 := 1#32
  let v72 : BitVec 32 := Scalar.select v71 c1_i32_44 c16_i32_42
  let v73 : BitVec 32 := Scalar.remsi v70 v72
  let c0_i32_46 : BitVec 32 := 0#32
  let v75 : BitVec 1 := Scalar.cmpi .slt v73 c0_i32_46
  let c0_i32_47 : BitVec 32 := 0#32
  let v76 : BitVec 1 := Scalar.cmpi .slt v72 c0_i32_47
  let v77 : BitVec 1 := Scalar.xori v75 v76
  let c0_i32_45 : BitVec 32 := 0#32
  let v74 : BitVec 1 := Scalar.cmpi .ne v73 c0_i32_45
  let v78 : BitVec 1 := Scalar.andi v77 v74
  let v79 : BitVec 32 := Scalar.addi v73 v72
  let v80 : BitVec 32 := Scalar.select v78 v79 v73
  v80.toNat
def k0_dev8 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v81 : BitVec 32 := Scalar.addi v2 c8_i32
  let c16_i32_49 : BitVec 32 := 16#32
  let c0_i32_50 : BitVec 32 := 0#32
  let v82 : BitVec 1 := Scalar.cmpi .eq c16_i32_49 c0_i32_50
  let c1_i32_51 : BitVec 32 := 1#32
  let v83 : BitVec 32 := Scalar.select v82 c1_i32_51 c16_i32_49
  let v84 : BitVec 32 := Scalar.remsi v81 v83
  let c0_i32_53 : BitVec 32 := 0#32
  let v86 : BitVec 1 := Scalar.cmpi .slt v84 c0_i32_53
  let c0_i32_54 : BitVec 32 := 0#32
  let v87 : BitVec 1 := Scalar.cmpi .slt v83 c0_i32_54
  let v88 : BitVec 1 := Scalar.xori v86 v87
  let c0_i32_52 : BitVec 32 := 0#32
  let v85 : BitVec 1 := Scalar.cmpi .ne v84 c0_i32_52
  let v89 : BitVec 1 := Scalar.andi v88 v85
  let v90 : BitVec 32 := Scalar.addi v84 v83
  let v91 : BitVec 32 := Scalar.select v89 v90 v84
  v91.toNat
def k0_dev9 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v92 : BitVec 32 := Scalar.addi v2 c9_i32
  let c16_i32_56 : BitVec 32 := 16#32
  let c0_i32_57 : BitVec 32 := 0#32
  let v93 : BitVec 1 := Scalar.cmpi .eq c16_i32_56 c0_i32_57
  let c1_i32_58 : BitVec 32 := 1#32
  let v94 : BitVec 32 := Scalar.select v93 c1_i32_58 c16_i32_56
  let v95 : BitVec 32 := Scalar.remsi v92 v94
  let c0_i32_60 : BitVec 32 := 0#32
  let v97 : BitVec 1 := Scalar.cmpi .slt v95 c0_i32_60
  let c0_i32_61 : BitVec 32 := 0#32
  let v98 : BitVec 1 := Scalar.cmpi .slt v94 c0_i32_61
  let v99 : BitVec 1 := Scalar.xori v97 v98
  let c0_i32_59 : BitVec 32 := 0#32
  let v96 : BitVec 1 := Scalar.cmpi .ne v95 c0_i32_59
  let v100 : BitVec 1 := Scalar.andi v99 v96
  let v101 : BitVec 32 := Scalar.addi v95 v94
  let v102 : BitVec 32 := Scalar.select v100 v101 v95
  v102.toNat
def k0_dev10 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v103 : BitVec 32 := Scalar.addi v2 c10_i32
  let c16_i32_63 : BitVec 32 := 16#32
  let c0_i32_64 : BitVec 32 := 0#32
  let v104 : BitVec 1 := Scalar.cmpi .eq c16_i32_63 c0_i32_64
  let c1_i32_65 : BitVec 32 := 1#32
  let v105 : BitVec 32 := Scalar.select v104 c1_i32_65 c16_i32_63
  let v106 : BitVec 32 := Scalar.remsi v103 v105
  let c0_i32_67 : BitVec 32 := 0#32
  let v108 : BitVec 1 := Scalar.cmpi .slt v106 c0_i32_67
  let c0_i32_68 : BitVec 32 := 0#32
  let v109 : BitVec 1 := Scalar.cmpi .slt v105 c0_i32_68
  let v110 : BitVec 1 := Scalar.xori v108 v109
  let c0_i32_66 : BitVec 32 := 0#32
  let v107 : BitVec 1 := Scalar.cmpi .ne v106 c0_i32_66
  let v111 : BitVec 1 := Scalar.andi v110 v107
  let v112 : BitVec 32 := Scalar.addi v106 v105
  let v113 : BitVec 32 := Scalar.select v111 v112 v106
  v113.toNat
def k0_dev11 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v114 : BitVec 32 := Scalar.addi v2 c11_i32
  let c16_i32_70 : BitVec 32 := 16#32
  let c0_i32_71 : BitVec 32 := 0#32
  let v115 : BitVec 1 := Scalar.cmpi .eq c16_i32_70 c0_i32_71
  let c1_i32_72 : BitVec 32 := 1#32
  let v116 : BitVec 32 := Scalar.select v115 c1_i32_72 c16_i32_70
  let v117 : BitVec 32 := Scalar.remsi v114 v116
  let c0_i32_74 : BitVec 32 := 0#32
  let v119 : BitVec 1 := Scalar.cmpi .slt v117 c0_i32_74
  let c0_i32_75 : BitVec 32 := 0#32
  let v120 : BitVec 1 := Scalar.cmpi .slt v116 c0_i32_75
  let v121 : BitVec 1 := Scalar.xori v119 v120
  let c0_i32_73 : BitVec 32 := 0#32
  let v118 : BitVec 1 := Scalar.cmpi .ne v117 c0_i32_73
  let v122 : BitVec 1 := Scalar.andi v121 v118
  let v123 : BitVec 32 := Scalar.addi v117 v116
  let v124 : BitVec 32 := Scalar.select v122 v123 v117
  v124.toNat
def k0_dev12 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v125 : BitVec 32 := Scalar.addi v2 c12_i32
  let c16_i32_77 : BitVec 32 := 16#32
  let c0_i32_78 : BitVec 32 := 0#32
  let v126 : BitVec 1 := Scalar.cmpi .eq c16_i32_77 c0_i32_78
  let c1_i32_79 : BitVec 32 := 1#32
  let v127 : BitVec 32 := Scalar.select v126 c1_i32_79 c16_i32_77
  let v128 : BitVec 32 := Scalar.remsi v125 v127
  let c0_i32_81 : BitVec 32 := 0#32
  let v130 : BitVec 1 := Scalar.cmpi .slt v128 c0_i32_81
  let c0_i32_82 : BitVec 32 := 0#32
  let v131 : BitVec 1 := Scalar.cmpi .slt v127 c0_i32_82
  let v132 : BitVec 1 := Scalar.xori v130 v131
  let c0_i32_80 : BitVec 32 := 0#32
  let v129 : BitVec 1 := Scalar.cmpi .ne v128 c0_i32_80
  let v133 : BitVec 1 := Scalar.andi v132 v129
  let v134 : BitVec 32 := Scalar.addi v128 v127
  let v135 : BitVec 32 := Scalar.select v133 v134 v128
  v135.toNat
def k0_dev13 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v136 : BitVec 32 := Scalar.addi v2 c13_i32
  let c16_i32_84 : BitVec 32 := 16#32
  let c0_i32_85 : BitVec 32 := 0#32
  let v137 : BitVec 1 := Scalar.cmpi .eq c16_i32_84 c0_i32_85
  let c1_i32_86 : BitVec 32 := 1#32
  let v138 : BitVec 32 := Scalar.select v137 c1_i32_86 c16_i32_84
  let v139 : BitVec 32 := Scalar.remsi v136 v138
  let c0_i32_88 : BitVec 32 := 0#32
  let v141 : BitVec 1 := Scalar.cmpi .slt v139 c0_i32_88
  let c0_i32_89 : BitVec 32 := 0#32
  let v142 : BitVec 1 := Scalar.cmpi .slt v138 c0_i32_89
  let v143 : BitVec 1 := Scalar.xori v141 v142
  let c0_i32_87 : BitVec 32 := 0#32
  let v140 : BitVec 1 := Scalar.cmpi .ne v139 c0_i32_87
  let v144 : BitVec 1 := Scalar.andi v143 v140
  let v145 : BitVec 32 := Scalar.addi v139 v138
  let v146 : BitVec 32 := Scalar.select v144 v145 v139
  v146.toNat
def k0_dev14 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v147 : BitVec 32 := Scalar.addi v2 c14_i32
  let c16_i32_91 : BitVec 32 := 16#32
  let c0_i32_92 : BitVec 32 := 0#32
  let v148 : BitVec 1 := Scalar.cmpi .eq c16_i32_91 c0_i32_92
  let c1_i32_93 : BitVec 32 := 1#32
  let v149 : BitVec 32 := Scalar.select v148 c1_i32_93 c16_i32_91
  let v150 : BitVec 32 := Scalar.remsi v147 v149
  let c0_i32_95 : BitVec 32 := 0#32
  let v152 : BitVec 1 := Scalar.cmpi .slt v150 c0_i32_95
  let c0_i32_96 : BitVec 32 := 0#32
  let v153 : BitVec 1 := Scalar.cmpi .slt v149 c0_i32_96
  let v154 : BitVec 1 := Scalar.xori v152 v153
  let c0_i32_94 : BitVec 32 := 0#32
  let v151 : BitVec 1 := Scalar.cmpi .ne v150 c0_i32_94
  let v155 : BitVec 1 := Scalar.andi v154 v151
  let v156 : BitVec 32 := Scalar.addi v150 v149
  let v157 : BitVec 32 := Scalar.select v155 v156 v150
  v157.toNat
def k0_dev15 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v158 : BitVec 32 := Scalar.addi v2 c15_i32
  let c16_i32_98 : BitVec 32 := 16#32
  let c0_i32_99 : BitVec 32 := 0#32
  let v159 : BitVec 1 := Scalar.cmpi .eq c16_i32_98 c0_i32_99
  let c1_i32_100 : BitVec 32 := 1#32
  let v160 : BitVec 32 := Scalar.select v159 c1_i32_100 c16_i32_98
  let v161 : BitVec 32 := Scalar.remsi v158 v160
  let c0_i32_102 : BitVec 32 := 0#32
  let v163 : BitVec 1 := Scalar.cmpi .slt v161 c0_i32_102
  let c0_i32_103 : BitVec 32 := 0#32
  let v164 : BitVec 1 := Scalar.cmpi .slt v160 c0_i32_103
  let v165 : BitVec 1 := Scalar.xori v163 v164
  let c0_i32_101 : BitVec 32 := 0#32
  let v162 : BitVec 1 := Scalar.cmpi .ne v161 c0_i32_101
  let v166 : BitVec 1 := Scalar.andi v165 v162
  let v167 : BitVec 32 := Scalar.addi v161 v160
  let v168 : BitVec 32 := Scalar.select v166 v167 v161
  v168.toNat
def k0_off1 (d0 : Dev nD) (c0_i32_106 : BitVec 32) : Fin 2 → Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v169 : BitVec 32 := Scalar.addi v2 c0_i32_106
  let c16_i32_107 : BitVec 32 := 16#32
  let c0_i32_108 : BitVec 32 := 0#32
  let v170 : BitVec 1 := Scalar.cmpi .eq c16_i32_107 c0_i32_108
  let c1_i32_109 : BitVec 32 := 1#32
  let v171 : BitVec 32 := Scalar.select v170 c1_i32_109 c16_i32_107
  let v172 : BitVec 32 := Scalar.remsi v169 v171
  let c0_i32_111 : BitVec 32 := 0#32
  let v174 : BitVec 1 := Scalar.cmpi .slt v172 c0_i32_111
  let c0_i32_112 : BitVec 32 := 0#32
  let v175 : BitVec 1 := Scalar.cmpi .slt v171 c0_i32_112
  let v176 : BitVec 1 := Scalar.xori v174 v175
  let c0_i32_110 : BitVec 32 := 0#32
  let v173 : BitVec 1 := Scalar.cmpi .ne v172 c0_i32_110
  let v177 : BitVec 1 := Scalar.andi v176 v173
  let v178 : BitVec 32 := Scalar.addi v172 v171
  let v179 : BitVec 32 := Scalar.select v177 v178 v172
  let c512_i32 : BitVec 32 := 512#32
  let v180 : BitVec 32 := Scalar.muli v179 c512_i32
  ![0, v180.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v227 : BitVec 32 := Scalar.muli v2 c256_i32
  let v228 : Index := Scalar.indexCast v227
  let c0_149 : Index := 0#32
  ![v228.toNat, 0]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_192 : BitVec 32 := 256#32
  let v285 : BitVec 32 := Scalar.muli v2 c256_i32_192
  let c0_i32_195 : BitVec 32 := 0#32
  ![v285.toNat, 0]
def k0_dev16 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_185 : BitVec 32 := 1#32
  let v274 : BitVec 32 := Scalar.addi v2 c1_i32_185
  let c16_i32_186 : BitVec 32 := 16#32
  let c0_i32_187 : BitVec 32 := 0#32
  let v275 : BitVec 1 := Scalar.cmpi .eq c16_i32_186 c0_i32_187
  let c1_i32_188 : BitVec 32 := 1#32
  let v276 : BitVec 32 := Scalar.select v275 c1_i32_188 c16_i32_186
  let v277 : BitVec 32 := Scalar.remsi v274 v276
  let c0_i32_190 : BitVec 32 := 0#32
  let v279 : BitVec 1 := Scalar.cmpi .slt v277 c0_i32_190
  let c0_i32_191 : BitVec 32 := 0#32
  let v280 : BitVec 1 := Scalar.cmpi .slt v276 c0_i32_191
  let v281 : BitVec 1 := Scalar.xori v279 v280
  let c0_i32_189 : BitVec 32 := 0#32
  let v278 : BitVec 1 := Scalar.cmpi .ne v277 c0_i32_189
  let v282 : BitVec 1 := Scalar.andi v281 v278
  let v283 : BitVec 32 := Scalar.addi v277 v276
  let v284 : BitVec 32 := Scalar.select v282 v283 v277
  v284.toNat
def k0_dev17 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_234 : BitVec 32 := 2#32
  let v337 : BitVec 32 := Scalar.addi v2 c2_i32_234
  let c16_i32_235 : BitVec 32 := 16#32
  let c0_i32_236 : BitVec 32 := 0#32
  let v338 : BitVec 1 := Scalar.cmpi .eq c16_i32_235 c0_i32_236
  let c1_i32_237 : BitVec 32 := 1#32
  let v339 : BitVec 32 := Scalar.select v338 c1_i32_237 c16_i32_235
  let v340 : BitVec 32 := Scalar.remsi v337 v339
  let c0_i32_239 : BitVec 32 := 0#32
  let v342 : BitVec 1 := Scalar.cmpi .slt v340 c0_i32_239
  let c0_i32_240 : BitVec 32 := 0#32
  let v343 : BitVec 1 := Scalar.cmpi .slt v339 c0_i32_240
  let v344 : BitVec 1 := Scalar.xori v342 v343
  let c0_i32_238 : BitVec 32 := 0#32
  let v341 : BitVec 1 := Scalar.cmpi .ne v340 c0_i32_238
  let v345 : BitVec 1 := Scalar.andi v344 v341
  let v346 : BitVec 32 := Scalar.addi v340 v339
  let v347 : BitVec 32 := Scalar.select v345 v346 v340
  v347.toNat
def k0_dev18 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_297 : BitVec 32 := 3#32
  let v417 : BitVec 32 := Scalar.addi v2 c3_i32_297
  let c16_i32_298 : BitVec 32 := 16#32
  let c0_i32_299 : BitVec 32 := 0#32
  let v418 : BitVec 1 := Scalar.cmpi .eq c16_i32_298 c0_i32_299
  let c1_i32_300 : BitVec 32 := 1#32
  let v419 : BitVec 32 := Scalar.select v418 c1_i32_300 c16_i32_298
  let v420 : BitVec 32 := Scalar.remsi v417 v419
  let c0_i32_302 : BitVec 32 := 0#32
  let v422 : BitVec 1 := Scalar.cmpi .slt v420 c0_i32_302
  let c0_i32_303 : BitVec 32 := 0#32
  let v423 : BitVec 1 := Scalar.cmpi .slt v419 c0_i32_303
  let v424 : BitVec 1 := Scalar.xori v422 v423
  let c0_i32_301 : BitVec 32 := 0#32
  let v421 : BitVec 1 := Scalar.cmpi .ne v420 c0_i32_301
  let v425 : BitVec 1 := Scalar.andi v424 v421
  let v426 : BitVec 32 := Scalar.addi v420 v419
  let v427 : BitVec 32 := Scalar.select v425 v426 v420
  v427.toNat
def k0_dev19 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_360 : BitVec 32 := 4#32
  let v497 : BitVec 32 := Scalar.addi v2 c4_i32_360
  let c16_i32_361 : BitVec 32 := 16#32
  let c0_i32_362 : BitVec 32 := 0#32
  let v498 : BitVec 1 := Scalar.cmpi .eq c16_i32_361 c0_i32_362
  let c1_i32_363 : BitVec 32 := 1#32
  let v499 : BitVec 32 := Scalar.select v498 c1_i32_363 c16_i32_361
  let v500 : BitVec 32 := Scalar.remsi v497 v499
  let c0_i32_365 : BitVec 32 := 0#32
  let v502 : BitVec 1 := Scalar.cmpi .slt v500 c0_i32_365
  let c0_i32_366 : BitVec 32 := 0#32
  let v503 : BitVec 1 := Scalar.cmpi .slt v499 c0_i32_366
  let v504 : BitVec 1 := Scalar.xori v502 v503
  let c0_i32_364 : BitVec 32 := 0#32
  let v501 : BitVec 1 := Scalar.cmpi .ne v500 c0_i32_364
  let v505 : BitVec 1 := Scalar.andi v504 v501
  let v506 : BitVec 32 := Scalar.addi v500 v499
  let v507 : BitVec 32 := Scalar.select v505 v506 v500
  v507.toNat
def k0_dev20 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_423 : BitVec 32 := 5#32
  let v577 : BitVec 32 := Scalar.addi v2 c5_i32_423
  let c16_i32_424 : BitVec 32 := 16#32
  let c0_i32_425 : BitVec 32 := 0#32
  let v578 : BitVec 1 := Scalar.cmpi .eq c16_i32_424 c0_i32_425
  let c1_i32_426 : BitVec 32 := 1#32
  let v579 : BitVec 32 := Scalar.select v578 c1_i32_426 c16_i32_424
  let v580 : BitVec 32 := Scalar.remsi v577 v579
  let c0_i32_428 : BitVec 32 := 0#32
  let v582 : BitVec 1 := Scalar.cmpi .slt v580 c0_i32_428
  let c0_i32_429 : BitVec 32 := 0#32
  let v583 : BitVec 1 := Scalar.cmpi .slt v579 c0_i32_429
  let v584 : BitVec 1 := Scalar.xori v582 v583
  let c0_i32_427 : BitVec 32 := 0#32
  let v581 : BitVec 1 := Scalar.cmpi .ne v580 c0_i32_427
  let v585 : BitVec 1 := Scalar.andi v584 v581
  let v586 : BitVec 32 := Scalar.addi v580 v579
  let v587 : BitVec 32 := Scalar.select v585 v586 v580
  v587.toNat
def k0_dev21 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_486 : BitVec 32 := 6#32
  let v657 : BitVec 32 := Scalar.addi v2 c6_i32_486
  let c16_i32_487 : BitVec 32 := 16#32
  let c0_i32_488 : BitVec 32 := 0#32
  let v658 : BitVec 1 := Scalar.cmpi .eq c16_i32_487 c0_i32_488
  let c1_i32_489 : BitVec 32 := 1#32
  let v659 : BitVec 32 := Scalar.select v658 c1_i32_489 c16_i32_487
  let v660 : BitVec 32 := Scalar.remsi v657 v659
  let c0_i32_491 : BitVec 32 := 0#32
  let v662 : BitVec 1 := Scalar.cmpi .slt v660 c0_i32_491
  let c0_i32_492 : BitVec 32 := 0#32
  let v663 : BitVec 1 := Scalar.cmpi .slt v659 c0_i32_492
  let v664 : BitVec 1 := Scalar.xori v662 v663
  let c0_i32_490 : BitVec 32 := 0#32
  let v661 : BitVec 1 := Scalar.cmpi .ne v660 c0_i32_490
  let v665 : BitVec 1 := Scalar.andi v664 v661
  let v666 : BitVec 32 := Scalar.addi v660 v659
  let v667 : BitVec 32 := Scalar.select v665 v666 v660
  v667.toNat
def k0_dev22 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_549 : BitVec 32 := 7#32
  let v737 : BitVec 32 := Scalar.addi v2 c7_i32_549
  let c16_i32_550 : BitVec 32 := 16#32
  let c0_i32_551 : BitVec 32 := 0#32
  let v738 : BitVec 1 := Scalar.cmpi .eq c16_i32_550 c0_i32_551
  let c1_i32_552 : BitVec 32 := 1#32
  let v739 : BitVec 32 := Scalar.select v738 c1_i32_552 c16_i32_550
  let v740 : BitVec 32 := Scalar.remsi v737 v739
  let c0_i32_554 : BitVec 32 := 0#32
  let v742 : BitVec 1 := Scalar.cmpi .slt v740 c0_i32_554
  let c0_i32_555 : BitVec 32 := 0#32
  let v743 : BitVec 1 := Scalar.cmpi .slt v739 c0_i32_555
  let v744 : BitVec 1 := Scalar.xori v742 v743
  let c0_i32_553 : BitVec 32 := 0#32
  let v741 : BitVec 1 := Scalar.cmpi .ne v740 c0_i32_553
  let v745 : BitVec 1 := Scalar.andi v744 v741
  let v746 : BitVec 32 := Scalar.addi v740 v739
  let v747 : BitVec 32 := Scalar.select v745 v746 v740
  v747.toNat
def k0_dev23 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_612 : BitVec 32 := 8#32
  let v817 : BitVec 32 := Scalar.addi v2 c8_i32_612
  let c16_i32_613 : BitVec 32 := 16#32
  let c0_i32_614 : BitVec 32 := 0#32
  let v818 : BitVec 1 := Scalar.cmpi .eq c16_i32_613 c0_i32_614
  let c1_i32_615 : BitVec 32 := 1#32
  let v819 : BitVec 32 := Scalar.select v818 c1_i32_615 c16_i32_613
  let v820 : BitVec 32 := Scalar.remsi v817 v819
  let c0_i32_617 : BitVec 32 := 0#32
  let v822 : BitVec 1 := Scalar.cmpi .slt v820 c0_i32_617
  let c0_i32_618 : BitVec 32 := 0#32
  let v823 : BitVec 1 := Scalar.cmpi .slt v819 c0_i32_618
  let v824 : BitVec 1 := Scalar.xori v822 v823
  let c0_i32_616 : BitVec 32 := 0#32
  let v821 : BitVec 1 := Scalar.cmpi .ne v820 c0_i32_616
  let v825 : BitVec 1 := Scalar.andi v824 v821
  let v826 : BitVec 32 := Scalar.addi v820 v819
  let v827 : BitVec 32 := Scalar.select v825 v826 v820
  v827.toNat
def k0_dev24 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_675 : BitVec 32 := 9#32
  let v897 : BitVec 32 := Scalar.addi v2 c9_i32_675
  let c16_i32_676 : BitVec 32 := 16#32
  let c0_i32_677 : BitVec 32 := 0#32
  let v898 : BitVec 1 := Scalar.cmpi .eq c16_i32_676 c0_i32_677
  let c1_i32_678 : BitVec 32 := 1#32
  let v899 : BitVec 32 := Scalar.select v898 c1_i32_678 c16_i32_676
  let v900 : BitVec 32 := Scalar.remsi v897 v899
  let c0_i32_680 : BitVec 32 := 0#32
  let v902 : BitVec 1 := Scalar.cmpi .slt v900 c0_i32_680
  let c0_i32_681 : BitVec 32 := 0#32
  let v903 : BitVec 1 := Scalar.cmpi .slt v899 c0_i32_681
  let v904 : BitVec 1 := Scalar.xori v902 v903
  let c0_i32_679 : BitVec 32 := 0#32
  let v901 : BitVec 1 := Scalar.cmpi .ne v900 c0_i32_679
  let v905 : BitVec 1 := Scalar.andi v904 v901
  let v906 : BitVec 32 := Scalar.addi v900 v899
  let v907 : BitVec 32 := Scalar.select v905 v906 v900
  v907.toNat
def k0_dev25 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_738 : BitVec 32 := 10#32
  let v977 : BitVec 32 := Scalar.addi v2 c10_i32_738
  let c16_i32_739 : BitVec 32 := 16#32
  let c0_i32_740 : BitVec 32 := 0#32
  let v978 : BitVec 1 := Scalar.cmpi .eq c16_i32_739 c0_i32_740
  let c1_i32_741 : BitVec 32 := 1#32
  let v979 : BitVec 32 := Scalar.select v978 c1_i32_741 c16_i32_739
  let v980 : BitVec 32 := Scalar.remsi v977 v979
  let c0_i32_743 : BitVec 32 := 0#32
  let v982 : BitVec 1 := Scalar.cmpi .slt v980 c0_i32_743
  let c0_i32_744 : BitVec 32 := 0#32
  let v983 : BitVec 1 := Scalar.cmpi .slt v979 c0_i32_744
  let v984 : BitVec 1 := Scalar.xori v982 v983
  let c0_i32_742 : BitVec 32 := 0#32
  let v981 : BitVec 1 := Scalar.cmpi .ne v980 c0_i32_742
  let v985 : BitVec 1 := Scalar.andi v984 v981
  let v986 : BitVec 32 := Scalar.addi v980 v979
  let v987 : BitVec 32 := Scalar.select v985 v986 v980
  v987.toNat
def k0_dev26 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_801 : BitVec 32 := 11#32
  let v1057 : BitVec 32 := Scalar.addi v2 c11_i32_801
  let c16_i32_802 : BitVec 32 := 16#32
  let c0_i32_803 : BitVec 32 := 0#32
  let v1058 : BitVec 1 := Scalar.cmpi .eq c16_i32_802 c0_i32_803
  let c1_i32_804 : BitVec 32 := 1#32
  let v1059 : BitVec 32 := Scalar.select v1058 c1_i32_804 c16_i32_802
  let v1060 : BitVec 32 := Scalar.remsi v1057 v1059
  let c0_i32_806 : BitVec 32 := 0#32
  let v1062 : BitVec 1 := Scalar.cmpi .slt v1060 c0_i32_806
  let c0_i32_807 : BitVec 32 := 0#32
  let v1063 : BitVec 1 := Scalar.cmpi .slt v1059 c0_i32_807
  let v1064 : BitVec 1 := Scalar.xori v1062 v1063
  let c0_i32_805 : BitVec 32 := 0#32
  let v1061 : BitVec 1 := Scalar.cmpi .ne v1060 c0_i32_805
  let v1065 : BitVec 1 := Scalar.andi v1064 v1061
  let v1066 : BitVec 32 := Scalar.addi v1060 v1059
  let v1067 : BitVec 32 := Scalar.select v1065 v1066 v1060
  v1067.toNat
def k0_dev27 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_864 : BitVec 32 := 12#32
  let v1137 : BitVec 32 := Scalar.addi v2 c12_i32_864
  let c16_i32_865 : BitVec 32 := 16#32
  let c0_i32_866 : BitVec 32 := 0#32
  let v1138 : BitVec 1 := Scalar.cmpi .eq c16_i32_865 c0_i32_866
  let c1_i32_867 : BitVec 32 := 1#32
  let v1139 : BitVec 32 := Scalar.select v1138 c1_i32_867 c16_i32_865
  let v1140 : BitVec 32 := Scalar.remsi v1137 v1139
  let c0_i32_869 : BitVec 32 := 0#32
  let v1142 : BitVec 1 := Scalar.cmpi .slt v1140 c0_i32_869
  let c0_i32_870 : BitVec 32 := 0#32
  let v1143 : BitVec 1 := Scalar.cmpi .slt v1139 c0_i32_870
  let v1144 : BitVec 1 := Scalar.xori v1142 v1143
  let c0_i32_868 : BitVec 32 := 0#32
  let v1141 : BitVec 1 := Scalar.cmpi .ne v1140 c0_i32_868
  let v1145 : BitVec 1 := Scalar.andi v1144 v1141
  let v1146 : BitVec 32 := Scalar.addi v1140 v1139
  let v1147 : BitVec 32 := Scalar.select v1145 v1146 v1140
  v1147.toNat
def k0_dev28 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_927 : BitVec 32 := 13#32
  let v1217 : BitVec 32 := Scalar.addi v2 c13_i32_927
  let c16_i32_928 : BitVec 32 := 16#32
  let c0_i32_929 : BitVec 32 := 0#32
  let v1218 : BitVec 1 := Scalar.cmpi .eq c16_i32_928 c0_i32_929
  let c1_i32_930 : BitVec 32 := 1#32
  let v1219 : BitVec 32 := Scalar.select v1218 c1_i32_930 c16_i32_928
  let v1220 : BitVec 32 := Scalar.remsi v1217 v1219
  let c0_i32_932 : BitVec 32 := 0#32
  let v1222 : BitVec 1 := Scalar.cmpi .slt v1220 c0_i32_932
  let c0_i32_933 : BitVec 32 := 0#32
  let v1223 : BitVec 1 := Scalar.cmpi .slt v1219 c0_i32_933
  let v1224 : BitVec 1 := Scalar.xori v1222 v1223
  let c0_i32_931 : BitVec 32 := 0#32
  let v1221 : BitVec 1 := Scalar.cmpi .ne v1220 c0_i32_931
  let v1225 : BitVec 1 := Scalar.andi v1224 v1221
  let v1226 : BitVec 32 := Scalar.addi v1220 v1219
  let v1227 : BitVec 32 := Scalar.select v1225 v1226 v1220
  v1227.toNat
def k0_dev29 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_990 : BitVec 32 := 14#32
  let v1297 : BitVec 32 := Scalar.addi v2 c14_i32_990
  let c16_i32_991 : BitVec 32 := 16#32
  let c0_i32_992 : BitVec 32 := 0#32
  let v1298 : BitVec 1 := Scalar.cmpi .eq c16_i32_991 c0_i32_992
  let c1_i32_993 : BitVec 32 := 1#32
  let v1299 : BitVec 32 := Scalar.select v1298 c1_i32_993 c16_i32_991
  let v1300 : BitVec 32 := Scalar.remsi v1297 v1299
  let c0_i32_995 : BitVec 32 := 0#32
  let v1302 : BitVec 1 := Scalar.cmpi .slt v1300 c0_i32_995
  let c0_i32_996 : BitVec 32 := 0#32
  let v1303 : BitVec 1 := Scalar.cmpi .slt v1299 c0_i32_996
  let v1304 : BitVec 1 := Scalar.xori v1302 v1303
  let c0_i32_994 : BitVec 32 := 0#32
  let v1301 : BitVec 1 := Scalar.cmpi .ne v1300 c0_i32_994
  let v1305 : BitVec 1 := Scalar.andi v1304 v1301
  let v1306 : BitVec 32 := Scalar.addi v1300 v1299
  let v1307 : BitVec 32 := Scalar.select v1305 v1306 v1300
  v1307.toNat
def k0_dev30 (d0 : Dev nD) : Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1040 : BitVec 32 := 15#32
  let v1360 : BitVec 32 := Scalar.addi v2 c15_i32_1040
  let c16_i32_1041 : BitVec 32 := 16#32
  let c0_i32_1042 : BitVec 32 := 0#32
  let v1361 : BitVec 1 := Scalar.cmpi .eq c16_i32_1041 c0_i32_1042
  let c1_i32_1043 : BitVec 32 := 1#32
  let v1362 : BitVec 32 := Scalar.select v1361 c1_i32_1043 c16_i32_1041
  let v1363 : BitVec 32 := Scalar.remsi v1360 v1362
  let c0_i32_1045 : BitVec 32 := 0#32
  let v1365 : BitVec 1 := Scalar.cmpi .slt v1363 c0_i32_1045
  let c0_i32_1046 : BitVec 32 := 0#32
  let v1366 : BitVec 1 := Scalar.cmpi .slt v1362 c0_i32_1046
  let v1367 : BitVec 1 := Scalar.xori v1365 v1366
  let c0_i32_1044 : BitVec 32 := 0#32
  let v1364 : BitVec 1 := Scalar.cmpi .ne v1363 c0_i32_1044
  let v1368 : BitVec 1 := Scalar.andi v1367 v1364
  let v1369 : BitVec 32 := Scalar.addi v1363 v1362
  let v1370 : BitVec 32 := Scalar.select v1368 v1369 v1363
  v1370.toNat
def k0_off5 (d0 : Dev nD) (c15_i32_1081 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1413 : BitVec 32 := Scalar.addi v2 c15_i32_1081
  let c16_i32_1082 : BitVec 32 := 16#32
  let c0_i32_1083 : BitVec 32 := 0#32
  let v1414 : BitVec 1 := Scalar.cmpi .eq c16_i32_1082 c0_i32_1083
  let c1_i32_1084 : BitVec 32 := 1#32
  let v1415 : BitVec 32 := Scalar.select v1414 c1_i32_1084 c16_i32_1082
  let v1416 : BitVec 32 := Scalar.remsi v1413 v1415
  let c0_i32_1086 : BitVec 32 := 0#32
  let v1418 : BitVec 1 := Scalar.cmpi .slt v1416 c0_i32_1086
  let c0_i32_1087 : BitVec 32 := 0#32
  let v1419 : BitVec 1 := Scalar.cmpi .slt v1415 c0_i32_1087
  let v1420 : BitVec 1 := Scalar.xori v1418 v1419
  let c0_i32_1085 : BitVec 32 := 0#32
  let v1417 : BitVec 1 := Scalar.cmpi .ne v1416 c0_i32_1085
  let v1421 : BitVec 1 := Scalar.andi v1420 v1417
  let v1422 : BitVec 32 := Scalar.addi v1416 v1415
  let v1423 : BitVec 32 := Scalar.select v1421 v1422 v1416
  ![v1423.toNat]
def k0_off6 (d0 : Dev nD) (c15_i32_1081 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1413 : BitVec 32 := Scalar.addi v2 c15_i32_1081
  let c16_i32_1082 : BitVec 32 := 16#32
  let c0_i32_1083 : BitVec 32 := 0#32
  let v1414 : BitVec 1 := Scalar.cmpi .eq c16_i32_1082 c0_i32_1083
  let c1_i32_1084 : BitVec 32 := 1#32
  let v1415 : BitVec 32 := Scalar.select v1414 c1_i32_1084 c16_i32_1082
  let v1416 : BitVec 32 := Scalar.remsi v1413 v1415
  let c0_i32_1086 : BitVec 32 := 0#32
  let v1418 : BitVec 1 := Scalar.cmpi .slt v1416 c0_i32_1086
  let c0_i32_1087 : BitVec 32 := 0#32
  let v1419 : BitVec 1 := Scalar.cmpi .slt v1415 c0_i32_1087
  let v1420 : BitVec 1 := Scalar.xori v1418 v1419
  let c0_i32_1085 : BitVec 32 := 0#32
  let v1417 : BitVec 1 := Scalar.cmpi .ne v1416 c0_i32_1085
  let v1421 : BitVec 1 := Scalar.andi v1420 v1417
  let v1422 : BitVec 32 := Scalar.addi v1416 v1415
  let v1423 : BitVec 32 := Scalar.select v1421 v1422 v1416
  let c256_i32_1088 : BitVec 32 := 256#32
  let v1424 : BitVec 32 := Scalar.muli v1423 c256_i32_1088
  let c0_i32_1091 : BitVec 32 := 0#32
  ![v1424.toNat, 0]
abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Exchange.Program.lean ====
/-
# The kernel's body as a list of steps

Each device signals every other device's barrier semaphore and waits for the fifteen signals it gets; then, for
`s = 0 … 15`, it multiplies its rows by the columns of the device `s` places on (fetched one step ahead into one
of two buffers), keeps the block of step 0 and sends the others; then it waits for its last two sends and for the
fifteen blocks sent to it. Here that order is stated as a chain of a few kinds of step, each a function of where it
reads and writes, and the printed body is shown to be the chain.
-/
module

public import proofs.«01_k».proof.Proof.Gen.KernelIdeal.Skeleton
public import proofs.«01_k».proof.Proof.Gen.KernelIdeal.Launch
public import Idealize.ShloMosaic.Lib.Pipeline.Regions

@[expose] public section

noncomputable section

namespace Cert.Exchange

open Cert.KernelIdeal Cert.KernelIdeal.Gen
open Idealize.ShloMosaic Idealize.ShloMosaic.TcCoe Idealize.SL.Sem

variable {F : FTy → Type} [FloatOps F]

/-! ## Where a step reads and writes -/

/-- The place of a block of 512 columns of the weights. -/
abbrev ColOff := {o : Fin 2 → Nat // ∀ a, o a + S4096x512.size a ≤ S4096x8192.size a}
/-- The place of a block of 256 rows of the result. -/
abbrev RowOff := {o : Fin 2 → Nat // ∀ a, o a + S256x512.size a ≤ S4096x512.size a}
/-- The place of one of the sixteen receive semaphores. -/
abbrev SemOff := {o : Fin 1 → Nat // ∀ a, o a + S1.size a ≤ S16.size a}

theorem two_inb (i : Fin 2) : ∀ a, (![i.val] : Fin 1 → Nat) a + S1.size a ≤ S2.size a := by revert i; decide
theorem w_inb (i : Fin 2) : ∀ a, (![i.val, 0, 0] : Fin 3 → Nat) a + S1x4096x512.size a ≤ S2x4096x512.size a := by
  revert i; decide
theorem y_inb (i : Fin 2) : ∀ a, (![i.val, 0, 0] : Fin 3 → Nat) a + S1x256x512.size a ≤ S2x256x512.size a := by
  revert i; decide

/-- The columns of the weights at `o`. -/
abbrev wCols (o : ColOff) : Memref sig .tc .hbm S4096x512 .f32 :=
  (Memref.whole main_arg1 : Memref sig .tc .hbm S4096x8192 .f32).slice
    (Rect.unit (s := S4096x8192) o.1 S4096x512.size o.2) (fun _ => rfl)
/-- The rows of the result at `o`. -/
abbrev outRows (o : RowOff) : Memref sig .tc .vmem S256x512 .f32 :=
  (Memref.whole cc0_stg1_0 : Memref sig .tc .vmem S4096x512 .f32).slice
    (Rect.unit (s := S4096x512) o.1 S256x512.size o.2) (fun _ => rfl)
/-- The weights' buffer `i`. -/
abbrev wSlot (i : Fin 2) : Memref sig .tc .vmem S4096x512 .f32 :=
  ((Memref.whole cc0_scratch0 : Memref sig .tc .vmem S2x4096x512 .f32).slice
    (Rect.unit (s := S2x4096x512) ![i.val, 0, 0] S1x4096x512.size (w_inb i)) (fun _ => rfl)).squeeze
      S4096x512 squeezes_S1x4096x512_S4096x512
/-- The send buffer `i`. -/
abbrev ySlot (i : Fin 2) : Memref sig .tc .vmem S256x512 .f32 :=
  ((Memref.whole cc0_scratch1 : Memref sig .tc .vmem S2x256x512 .f32).slice
    (Rect.unit (s := S2x256x512) ![i.val, 0, 0] S1x256x512.size (y_inb i)) (fun _ => rfl)).squeeze
      S256x512 squeezes_S1x256x512_S256x512
/-- The semaphore of the weights' buffer `i`. -/
abbrev wSem (i : Fin 2) : DmaSem sig :=
  ((cc0_scratch2.slice (Rect.unit (s := S2) ![i.val] S1.size (two_inb i))).squeeze S_ squeezes_S1_S_).sem
/-- The semaphore of the send buffer `i`. -/
abbrev sSem (i : Fin 2) : DmaSem sig :=
  ((cc0_scratch3.slice (Rect.unit (s := S2) ![i.val] S1.size (two_inb i))).squeeze S_ squeezes_S1_S_).sem
/-- The receive semaphore at `o`. -/
abbrev rSem (o : SemOff) : DmaSem sig :=
  ((cc0_scratch4.slice (Rect.unit (s := S16) o.1 S1.size o.2)).squeeze S_ squeezes_S1_S_).sem
/-- The barrier semaphore. -/
abbrev barS : Sem sig := (SemArray.scalar (sig.barrier 0 rfl) : Sems sig S_).sem

/-! ## The kinds of step -/

/-- A step of the body. -/
abbrev Step (F : FTy → Type) := Prog (TpuEff nD τ sig (Elt F) Λ₀ .tc) PUnit

/-- One signal to device `n`'s barrier semaphore. -/
def sig1 (n : Dev nD) : Step F := semSignalWord n barS 1#32
/-- The wait for the fifteen signals. -/
def barWait : Step F := semWaitWord barS 15#32

/-- Start fetching the columns at `o` into buffer `i`. -/
def wStart (o : ColOff) (i : Fin 2) : Step F :=
  Prog.lift (.enqueueDma (wCols o) (.here (wSlot i)) (.dma (wSem i)) (View.wordExact_bits rfl)
    ((View.wordExact_bits rfl).reshape _ _) ⟨Or.inl rfl, trivial⟩)
/-- Wait for the fetch of the columns at `o` into buffer `i`. -/
def wWait (o : ColOff) (i : Fin 2) : Step F :=
  Prog.lift (.waitDma2 (wSem i) (wCols o) (wSlot i) (View.wordExact_bits rfl) ((View.wordExact_bits rfl).reshape _ _))

/-- The block a step computes from the device's rows and the fetched columns: their product, negatives at zero. -/
abbrev relu (x : Vec F S256x4096 .f32) (w : Vec F S1x4096x512 .f32) : FVec F S256x512 .f32 := k0_pay1 x w

/-- Read the device's rows and buffer `i`, and pass on the block computed. -/
def compute (i : Fin 2) (k : FVec F S256x512 .f32 → Step F) : Step F :=
  Prog.lift (.load (Memref.whole cc0_stg0_0 : Memref sig .tc .vmem S256x4096 .f32)
      (Rect.unit (s := S256x4096) ![0, 0] S256x4096.size inb_S256x4096_S256x4096_0_0).toLoadRect
      (View.loadsAt_vmem h_S256x4096)) >>= fun x =>
  Prog.lift (.load (Memref.whole cc0_scratch0 : Memref sig .tc .vmem S2x4096x512 .f32)
      (Rect.unit (s := S2x4096x512) ![i.val, 0, 0] S1x4096x512.size (w_inb i)).toLoadRect
      (View.loadsAt_vmem h_S1x4096x512)) >>= fun w => k (relu x w)

/-- Keep the block `v` in the result's rows at `o`. -/
def keep (o : RowOff) (v : FVec F S256x512 .f32) : Step F :=
  Prog.lift (.load (Memref.whole cc0_stg1_0 : Memref sig .tc .vmem S4096x512 .f32)
      (Rect.unit (s := S4096x512) o.1 S256x512.size o.2).toLoadRect (View.loadsAt_vmem h_S256x512)) >>= fun _ =>
  Prog.lift (.store (Memref.whole cc0_stg1_0 : Memref sig .tc .vmem S4096x512 .f32)
      (Rect.unit (s := S4096x512) o.1 S256x512.size o.2) v Finset.univ
      (View.stores_vmem_bits_univ h_S256x512 rfl) (.inl rfl))

/-- Put the block `v` in send buffer `i`. -/
def stash (i : Fin 2) (v : FVec F S256x512 .f32) : Step F :=
  Prog.lift (.load (Memref.whole cc0_scratch1 : Memref sig .tc .vmem S2x256x512 .f32)
      (Rect.unit (s := S2x256x512) ![i.val, 0, 0] S1x256x512.size (y_inb i)).toLoadRect
      (View.loadsAt_vmem h_S1x256x512)) >>= fun _ =>
  Prog.lift (.store (Memref.whole cc0_scratch1 : Memref sig .tc .vmem S2x256x512 .f32)
      (Rect.unit (s := S2x256x512) ![i.val, 0, 0] S1x256x512.size (y_inb i))
      (shapeCast S1x256x512 v shapeCasts_S256x512_S1x256x512) Finset.univ
      (View.stores_vmem_bits_univ h_S1x256x512 rfl) (.inl rfl))

/-- Send buffer `i` to the rows at `o` of device `n`'s result, crediting its receive semaphore at `r`. -/
def send (i : Fin 2) (n : Dev nD) (o : RowOff) (r : SemOff) : Step F :=
  Prog.lift (.enqueueDma (ySlot i) (.remote (Dev.tc n) (outRows o) (.dma (sSem i))) (.dma (rSem r))
    ((View.wordExact_bits rfl).reshape _ _) (View.wordExact_bits rfl) ⟨⟨rfl, Or.inl rfl⟩, trivial⟩)
/-- Wait until the last send from buffer `i` is read out. -/
def sendWait (i : Fin 2) (o : RowOff) : Step F :=
  Prog.lift (.waitDma2 (sSem i) (outRows o) (ySlot i) (View.wordExact_bits rfl) ((View.wordExact_bits rfl).reshape _ _))
/-- Wait for the block that credits the receive semaphore at `r`, in the rows at `o`. -/
def recvWait (r : SemOff) (o : RowOff) : Step F :=
  Prog.lift (.waitDma2 (rSem r) (ySlot 0) (outRows o) ((View.wordExact_bits rfl).reshape _ _) (View.wordExact_bits rfl))

/-- The buffer of step `s`. -/
abbrev par (s : Nat) : Fin 2 := ⟨s % 2, Nat.mod_lt _ (by decide)⟩

/-- What step `s` does with its block: step 0 keeps it; a later one sends it, after waiting, from step 3 on, for
    the send before it from its buffer. -/
def dispatch (s : Nat) (n : Dev nD) (ol os : RowOff) (r : SemOff) (v : FVec F S256x512 .f32) : Step F :=
  match s with
  | 0 => keep ol v
  | 1 => stash 1 v >>= fun _ => send 1 n os r
  | 2 => stash 0 v >>= fun _ => send 0 n os r
  | s + 3 => sendWait (par (s + 3)) os >>= fun _ => stash (par (s + 3)) v >>= fun _ => send (par (s + 3)) n os r

/-- Start the next step's fetch, if there is a next step. -/
def prefetch (i : Fin 2) : Option ColOff → Step F
  | none => pure ⟨⟩
  | some o => wStart o i

/-- Step `s`, on the columns at `o`: start the next fetch, wait for these columns, compute the block, dispatch it. -/
def step (s : Nat) (next : Option ColOff) (o : ColOff) (n : Dev nD) (ol os : RowOff) (r : SemOff) : Step F :=
  prefetch (par (s + 1)) next >>= fun _ => wWait o (par s) >>= fun _ => compute (par s) (dispatch s n ol os r)

/-! ## The printed places -/

/-- The columns fetched for step `s`, as printed. -/
abbrev colP (d : Dev nD) (s : Fin 16) : ColOff := ⟨k0_off1 d (BitVec.ofNat 32 s.val), k0_off1_inb d s⟩
/-- The device's own rows, as the local store has them, -/
abbrev ownP (d : Dev nD) : RowOff := ⟨k0_off2 d, k0_off2_inb d⟩
/-- and as the sends have them. -/
abbrev rowP (d : Dev nD) : RowOff := ⟨k0_off4 d, k0_off4_inb d⟩
/-- The receive semaphore a send credits, as printed. -/
abbrev semP (d : Dev nD) : SemOff := ⟨k0_off3 d, k0_off3_inb d⟩
/-- The receive semaphore and the rows of the device `r + 1` places on, as printed. -/
abbrev srcSemP (d : Dev nD) (r : Fin 15) : SemOff := ⟨k0_off5 d (BitVec.ofNat 32 (1 + r.val)), k0_off5_inb d r⟩
abbrev srcRowP (d : Dev nD) (r : Fin 15) : RowOff := ⟨k0_off6 d (BitVec.ofNat 32 (1 + r.val)), k0_off6_inb d r⟩

/-- The steps of device `d`'s body, with its places as printed. -/
def printed (d : Dev nD) : List (Step F) :=
  [ sig1 ⟨k0_dev1 d, k0_dev1_lt d⟩,
    sig1 ⟨k0_dev2 d, k0_dev2_lt d⟩,
    sig1 ⟨k0_dev3 d, k0_dev3_lt d⟩,
    sig1 ⟨k0_dev4 d, k0_dev4_lt d⟩,
    sig1 ⟨k0_dev5 d, k0_dev5_lt d⟩,
    sig1 ⟨k0_dev6 d, k0_dev6_lt d⟩,
    sig1 ⟨k0_dev7 d, k0_dev7_lt d⟩,
    sig1 ⟨k0_dev8 d, k0_dev8_lt d⟩,
    sig1 ⟨k0_dev9 d, k0_dev9_lt d⟩,
    sig1 ⟨k0_dev10 d, k0_dev10_lt d⟩,
    sig1 ⟨k0_dev11 d, k0_dev11_lt d⟩,
    sig1 ⟨k0_dev12 d, k0_dev12_lt d⟩,
    sig1 ⟨k0_dev13 d, k0_dev13_lt d⟩,
    sig1 ⟨k0_dev14 d, k0_dev14_lt d⟩,
    sig1 ⟨k0_dev15 d, k0_dev15_lt d⟩,
    barWait,
    wStart (colP d 0) 0,
    step 0 (some (colP d 1)) (colP d 0) d (ownP d) (rowP d) (semP d),
    step 1 (some (colP d 2)) (colP d 1) ⟨k0_dev16 d, k0_dev16_lt d⟩ (ownP d) (rowP d) (semP d),
    step 2 (some (colP d 3)) (colP d 2) ⟨k0_dev17 d, k0_dev17_lt d⟩ (ownP d) (rowP d) (semP d),
    step 3 (some (colP d 4)) (colP d 3) ⟨k0_dev18 d, k0_dev18_lt d⟩ (ownP d) (rowP d) (semP d),
    step 4 (some (colP d 5)) (colP d 4) ⟨k0_dev19 d, k0_dev19_lt d⟩ (ownP d) (rowP d) (semP d),
    step 5 (some (colP d 6)) (colP d 5) ⟨k0_dev20 d, k0_dev20_lt d⟩ (ownP d) (rowP d) (semP d),
    step 6 (some (colP d 7)) (colP d 6) ⟨k0_dev21 d, k0_dev21_lt d⟩ (ownP d) (rowP d) (semP d),
    step 7 (some (colP d 8)) (colP d 7) ⟨k0_dev22 d, k0_dev22_lt d⟩ (ownP d) (rowP d) (semP d),
    step 8 (some (colP d 9)) (colP d 8) ⟨k0_dev23 d, k0_dev23_lt d⟩ (ownP d) (rowP d) (semP d),
    step 9 (some (colP d 10)) (colP d 9) ⟨k0_dev24 d, k0_dev24_lt d⟩ (ownP d) (rowP d) (semP d),
    step 10 (some (colP d 11)) (colP d 10) ⟨k0_dev25 d, k0_dev25_lt d⟩ (ownP d) (rowP d) (semP d),
    step 11 (some (colP d 12)) (colP d 11) ⟨k0_dev26 d, k0_dev26_lt d⟩ (ownP d) (rowP d) (semP d),
    step 12 (some (colP d 13)) (colP d 12) ⟨k0_dev27 d, k0_dev27_lt d⟩ (ownP d) (rowP d) (semP d),
    step 13 (some (colP d 14)) (colP d 13) ⟨k0_dev28 d, k0_dev28_lt d⟩ (ownP d) (rowP d) (semP d),
    step 14 (some (colP d 15)) (colP d 14) ⟨k0_dev29 d, k0_dev29_lt d⟩ (ownP d) (rowP d) (semP d),
    step 15 none (colP d 15) ⟨k0_dev30 d, k0_dev30_lt d⟩ (ownP d) (rowP d) (semP d),
    sendWait 0 (rowP d),
    sendWait 1 (rowP d),
    recvWait (srcSemP d 14) (srcRowP d 14),
    recvWait (srcSemP d 13) (srcRowP d 13),
    recvWait (srcSemP d 12) (srcRowP d 12),
    recvWait (srcSemP d 11) (srcRowP d 11),
    recvWait (srcSemP d 10) (srcRowP d 10),
    recvWait (srcSemP d 9) (srcRowP d 9),
    recvWait (srcSemP d 8) (srcRowP d 8),
    recvWait (srcSemP d 7) (srcRowP d 7),
    recvWait (srcSemP d 6) (srcRowP d 6),
    recvWait (srcSemP d 5) (srcRowP d 5),
    recvWait (srcSemP d 4) (srcRowP d 4),
    recvWait (srcSemP d 3) (srcRowP d 3),
    recvWait (srcSemP d 2) (srcRowP d 2),
    recvWait (srcSemP d 1) (srcRowP d 1),
    recvWait (srcSemP d 0) (srcRowP d 0) ]

set_option maxRecDepth 65536 in
/-- The printed body is the chain of the steps. -/
theorem body_chain : cc0_body (F := F) (Memref.whole cc0_stg0_0) (Memref.isWhole_whole _) (Memref.whole main_arg1)
      (Memref.isWhole_whole _) (Memref.whole cc0_stg1_0) (Memref.isWhole_whole _) (Memref.whole cc0_scratch0)
      (Memref.isWhole_whole _) (Memref.whole cc0_scratch1) (Memref.isWhole_whole _) cc0_scratch2 cc0_scratch3
      cc0_scratch4
    = (Prog.lift .deviceId >>= fun d => Pipeline.chain (printed d)) := by
  chain_rfl

/-! ## The places in closed form -/

/-- The device `s` places after `d`, round the sixteen. -/
def peer (d : Dev nD) (s : Nat) : Dev nD := ⟨(d.val + s) % 16, Nat.mod_lt _ (by decide)⟩

theorem col_inb (j : Fin 16) : ∀ a, (![0, 512 * j.val] : Fin 2 → Nat) a + S4096x512.size a ≤ S4096x8192.size a := by
  revert j; decide
theorem row_inb (j : Fin 16) : ∀ a, (![256 * j.val, 0] : Fin 2 → Nat) a + S256x512.size a ≤ S4096x512.size a := by
  revert j; decide
theorem sem_inb (j : Fin 16) : ∀ a, (![j.val] : Fin 1 → Nat) a + S1.size a ≤ S16.size a := by revert j; decide

/-- The columns of device `j`, -/
abbrev colAt (j : Dev nD) : ColOff := ⟨![0, 512 * j.val], col_inb j⟩
/-- its rows, -/
abbrev rowAt (j : Dev nD) : RowOff := ⟨![256 * j.val, 0], row_inb j⟩
/-- and the semaphore of what it sends. -/
abbrev semAt (j : Dev nD) : SemOff := ⟨![j.val], sem_inb j⟩

theorem colP_eq (d : Dev nD) (s : Fin 16) : colP d s = colAt (peer d s.val) :=
  Subtype.ext (by revert d s; decide +kernel)
theorem ownP_eq (d : Dev nD) : ownP d = rowAt d := Subtype.ext (k0_off2_eq d)
theorem rowP_eq (d : Dev nD) : rowP d = rowAt d := Subtype.ext (k0_off4_eq d)
theorem semP_eq (d : Dev nD) : semP d = semAt d := Subtype.ext (k0_off3_eq d)
theorem srcSemP_eq (d : Dev nD) (r : Fin 15) : srcSemP d r = semAt (peer d (r.val + 1)) :=
  Subtype.ext (by revert d r; decide +kernel)
theorem srcRowP_eq (d : Dev nD) (r : Fin 15) : srcRowP d r = rowAt (peer d (r.val + 1)) :=
  Subtype.ext (by revert d r; decide +kernel)

/-- The devices a body signals and sends to. -/
theorem dev_eqs (d : Dev nD) :
    (⟨k0_dev1 d, k0_dev1_lt d⟩ : Dev nD) = peer d 1 ∧
    (⟨k0_dev2 d, k0_dev2_lt d⟩ : Dev nD) = peer d 2 ∧
    (⟨k0_dev3 d, k0_dev3_lt d⟩ : Dev nD) = peer d 3 ∧
    (⟨k0_dev4 d, k0_dev4_lt d⟩ : Dev nD) = peer d 4 ∧
    (⟨k0_dev5 d, k0_dev5_lt d⟩ : Dev nD) = peer d 5 ∧
    (⟨k0_dev6 d, k0_dev6_lt d⟩ : Dev nD) = peer d 6 ∧
    (⟨k0_dev7 d, k0_dev7_lt d⟩ : Dev nD) = peer d 7 ∧
    (⟨k0_dev8 d, k0_dev8_lt d⟩ : Dev nD) = peer d 8 ∧
    (⟨k0_dev9 d, k0_dev9_lt d⟩ : Dev nD) = peer d 9 ∧
    (⟨k0_dev10 d, k0_dev10_lt d⟩ : Dev nD) = peer d 10 ∧
    (⟨k0_dev11 d, k0_dev11_lt d⟩ : Dev nD) = peer d 11 ∧
    (⟨k0_dev12 d, k0_dev12_lt d⟩ : Dev nD) = peer d 12 ∧
    (⟨k0_dev13 d, k0_dev13_lt d⟩ : Dev nD) = peer d 13 ∧
    (⟨k0_dev14 d, k0_dev14_lt d⟩ : Dev nD) = peer d 14 ∧
    (⟨k0_dev15 d, k0_dev15_lt d⟩ : Dev nD) = peer d 15 ∧
    (⟨k0_dev16 d, k0_dev16_lt d⟩ : Dev nD) = peer d 1 ∧
    (⟨k0_dev17 d, k0_dev17_lt d⟩ : Dev nD) = peer d 2 ∧
    (⟨k0_dev18 d, k0_dev18_lt d⟩ : Dev nD) = peer d 3 ∧
    (⟨k0_dev19 d, k0_dev19_lt d⟩ : Dev nD) = peer d 4 ∧
    (⟨k0_dev20 d, k0_dev20_lt d⟩ : Dev nD) = peer d 5 ∧
    (⟨k0_dev21 d, k0_dev21_lt d⟩ : Dev nD) = peer d 6 ∧
    (⟨k0_dev22 d, k0_dev22_lt d⟩ : Dev nD) = peer d 7 ∧
    (⟨k0_dev23 d, k0_dev23_lt d⟩ : Dev nD) = peer d 8 ∧
    (⟨k0_dev24 d, k0_dev24_lt d⟩ : Dev nD) = peer d 9 ∧
    (⟨k0_dev25 d, k0_dev25_lt d⟩ : Dev nD) = peer d 10 ∧
    (⟨k0_dev26 d, k0_dev26_lt d⟩ : Dev nD) = peer d 11 ∧
    (⟨k0_dev27 d, k0_dev27_lt d⟩ : Dev nD) = peer d 12 ∧
    (⟨k0_dev28 d, k0_dev28_lt d⟩ : Dev nD) = peer d 13 ∧
    (⟨k0_dev29 d, k0_dev29_lt d⟩ : Dev nD) = peer d 14 ∧
    (⟨k0_dev30 d, k0_dev30_lt d⟩ : Dev nD) = peer d 15 := by
  revert d; decide +kernel

/-! ## The body in closed form -/

/-- Signal `k` of device `d`. -/
def sigAt (d : Dev nD) (k : Nat) : Step F := sig1 (peer d (k + 1))
/-- Step `s` of device `d`. -/
def stepAt (d : Dev nD) (s : Nat) : Step F :=
  step s (if s < 15 then some (colAt (peer d (s + 1))) else none) (colAt (peer d s)) (peer d s) (rowAt d) (rowAt d)
    (semAt d)
/-- Receive `k` of device `d`: from the device `15 - k` places on. -/
def recvAt (d : Dev nD) (k : Nat) : Step F := recvWait (semAt (peer d (15 - k))) (rowAt (peer d (15 - k)))

/-- The steps of device `d`'s body. -/
def steps (d : Dev nD) : List (Step F) :=
  (List.range' 0 15).map (sigAt d) ++ (barWait :: wStart (colAt (peer d 0)) 0 :: ((List.range' 0 16).map (stepAt d)
    ++ (sendWait 0 (rowAt d) :: sendWait 1 (rowAt d) :: (List.range' 0 15).map (recvAt d))))

theorem peer_zero (d : Dev nD) : peer d 0 = d := by revert d; decide

theorem printed_eq (d : Dev nD) : printed (F := F) d = steps d := by
  simp only [printed, colP_eq, ownP_eq, rowP_eq, semP_eq, srcSemP_eq, srcRowP_eq, dev_eqs]
  rfl

/-- The body is the chain of its steps. -/
theorem body_steps : cc0_body (F := F) (Memref.whole cc0_stg0_0) (Memref.isWhole_whole _) (Memref.whole main_arg1)
      (Memref.isWhole_whole _) (Memref.whole cc0_stg1_0) (Memref.isWhole_whole _) (Memref.whole cc0_scratch0)
      (Memref.isWhole_whole _) (Memref.whole cc0_scratch1) (Memref.isWhole_whole _) cc0_scratch2 cc0_scratch3
      cc0_scratch4
    = (Prog.lift .deviceId >>= fun d => Pipeline.chain (steps d)) := by
  rw [body_chain]; simp only [printed_eq]

end Cert.Exchange

end
-- ==== Proof.Exchange.Cells.lean ====
/-
# The cells of the exchange, and what the buffers hold

The semaphores of a device are its barrier, two for the fetches of the weights, two for the sends, and one for each
device it receives from; `kindOf` tells which a semaphore is. Below them the contents the proof follows: the block
each device computes for each other one, and the result they make together.
-/
module

public import proofs.«01_k».proof.Proof.Exchange.Program
public import Idealize.ShloMosaic.Lib.Pipeline.Launch
public import Idealize.ShloMosaic.Lib.Pipeline.Kit
public import Idealize.ShloMosaic.Lib.Pipeline.ValueKit.Geometry
public import Idealize.ShloMosaic.Lib.Ring
public import Idealize.ShloMosaic.Lib.ViewIndex
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The semaphores -/

/-- The kinds of semaphore: the barrier, those of the two weight buffers, of the two send buffers, the one of what
    device `j` sends, and the rest. -/
inductive Kd
  | bar | w (i : Fin 2) | s (i : Fin 2) | r (j : Dev nD) | other
  deriving DecidableEq

/-- The kind of a semaphore. -/
def kindOf : SemLoc sig → Kd
  | .reg _ => .bar
  | .dma q =>
    if q = wSem 0 then .w 0 else if q = wSem 1 then .w 1 else if q = sSem 0 then .s 0 else if q = sSem 1 then .s 1
    else if h : 6 ≤ q.val then .r ⟨q.val - 6, by have := q.isLt; change q.val < 22 at this; show _ < 16; omega⟩
    else .other

theorem kind_bar : kindOf (.reg barS) = .bar := rfl
theorem kind_w (i : Fin 2) : kindOf (.dma (wSem i)) = .w i := by revert i; decide
theorem kind_s (i : Fin 2) : kindOf (.dma (sSem i)) = .s i := by revert i; decide
theorem kind_r (j : Dev nD) : kindOf (.dma (rSem (semAt j))) = .r j := by revert j; decide

/-- The kernel's own semaphores, as the launch numbers them, -/
abbrev osem (k : Fin 20) : SemLoc sig := .dma ⟨k.val + 2, by have := k.isLt; show _ < 22; omega⟩
/-- and all those of the exchange: the barrier first. -/
abbrev csem (k : Fin 21) : SemLoc sig := Fin.cases (.reg barS) osem k
abbrev kcell (ck : Dev nD × Fin 21) : GSem nD τ sig := ((ck.1 : Thread nD τ), csem ck.2)

/-- The numbers of the semaphores in that list. -/
abbrev kBar : Fin 21 := 0
def kW (i : Fin 2) : Fin 21 := ⟨i.val + 1, by omega⟩
def kS (i : Fin 2) : Fin 21 := ⟨i.val + 3, by omega⟩
def kR (j : Dev nD) : Fin 21 := ⟨j.val + 5, by have := j.isLt; change j.val < 16 at this; omega⟩

theorem csem_w (i : Fin 2) : csem (kW i) = .dma (wSem i) := by revert i; decide
theorem csem_s (i : Fin 2) : csem (kS i) = .dma (sSem i) := by revert i; decide
theorem csem_r (j : Dev nD) : csem (kR j) = .dma (rSem (semAt j)) := by revert j; decide

abbrev barCell (c : Dev nD) : GSem nD τ sig := ((c : Thread nD τ), .reg barS)
abbrev wCell (c : Dev nD) (i : Fin 2) : GSem nD τ sig := ((c : Thread nD τ), .dma (wSem i))
abbrev sCell (c : Dev nD) (i : Fin 2) : GSem nD τ sig := ((c : Thread nD τ), .dma (sSem i))
abbrev rCell (c j : Dev nD) : GSem nD τ sig := ((c : Thread nD τ), .dma (rSem (semAt j)))

/-- What a fetch credits, -/
def NW : ℕ := (wSlot 0).view.dmaCredit
/-- and what a send does. -/
def NY : ℕ := (outRows (rowAt 0)).view.dmaCredit
theorem NW_pos : 0 < NW := View.dmaCredit_pos _ (by decide)
theorem NY_pos : 0 < NY := View.dmaCredit_pos _ (by decide)
theorem amount_w (i : Fin 2) : (wSlot i).view.amount (.dma (wSem i)) = NW := rfl
theorem amount_rows (o : RowOff) (q : DmaSem sig) : (outRows o).view.amount (.dma q) = NY := rfl
theorem credit_rows (o : RowOff) : (outRows o).view.dmaCredit = NY := rfl
theorem credit_w (i : Fin 2) : (wSlot i).view.dmaCredit = NW := rfl
theorem credit_y (i : Fin 2) : (ySlot i).view.dmaCredit = NY := rfl

attribute [irreducible] NW NY

/-! ## The contents -/

variable (m : (ℓ : Loc nD τ sig) → Buf (Elt F) ℓ)

/-- Device `c`'s rows of the left operand, as staged, -/
def xstg (c : Dev nD) : (cc0_stg0_0 : Ref sig .tc).ty.Contents (Elt F) :=
  (win0_0.blk (0 : Fin 1)).view.read (Elt F) (m ((c : Thread nD τ).loc main_arg0))
/-- and its copy of the weights. -/
abbrev wAll (c : Dev nD) : (main_arg1 : Ref sig .tc).ty.Contents (Elt F) := m ((c : Thread nD τ).loc main_arg1)

theorem casts_w : S4096x512.ShapeCasts S1x4096x512 := by decide

/-- The block device `j` computes for device `c`. -/
def blkOf (j c : Dev nD) : FVec F S256x512 .f32 :=
  relu (xstg m j) (shapeCast S1x4096x512 ((wCols (colAt c)).view.read (Elt F) (wAll m j)) casts_w)

/-- The device whose rows of the result an index is in, -/
def rowDev (i : S4096x512.Idx) : Dev nD := ⟨(i 0).val / 256, by
  have h : (i 0).val < 4096 := (i 0).isLt
  show _ < 16; omega⟩
/-- and the index in its block. -/
def rowIdx (i : S4096x512.Idx) : S256x512.Idx := fun a => match a with
  | ⟨0, _⟩ => ⟨(i 0).val % 256, by show _ < 256; omega⟩
  | ⟨1, _⟩ => ⟨(i 1).val, (i 1).isLt⟩

/-- Device `c`'s result: below one another, the blocks the sixteen devices computed for it. -/
def outF (c : Dev nD) : (cc0_stg1_0 : Ref sig .tc).ty.Contents (Elt F) :=
  fun i => blkOf m (rowDev i) c (rowIdx i)

/-- Device `j`'s rows of device `c`'s result are the block it computed for it. -/
theorem read_outF (c j : Dev nD) : (outRows (rowAt j)).view.read (Elt F) (outF m c) = blkOf m j c := by
  funext x
  have h0 : (((outRows (rowAt j)).view.emb x (0 : Fin 2) : Fin _) : ℕ) = 256 * j.val + (x 0).val :=
    ValueKit.view_emb_slice_whole_unit_val cc0_stg1_0 _ _ _ x (0 : Fin 2)
  have h1 : (((outRows (rowAt j)).view.emb x (1 : Fin 2) : Fin _) : ℕ) = 0 + (x 1).val :=
    ValueKit.view_emb_slice_whole_unit_val cc0_stg1_0 _ _ _ x (1 : Fin 2)
  have hx : (x 0).val < 256 := (x 0).isLt
  show blkOf m (rowDev ((outRows (rowAt j)).view.emb x)) c (rowIdx ((outRows (rowAt j)).view.emb x)) = _
  have hd : rowDev ((outRows (rowAt j)).view.emb x) = j := Fin.ext (by
    show (((outRows (rowAt j)).view.emb x (0 : Fin 2) : Fin _) : ℕ) / 256 = _
    rw [h0]; omega)
  have hi : rowIdx ((outRows (rowAt j)).view.emb x) = x := funext fun a => by
    match a with
    | ⟨0, _⟩ => exact Fin.ext (by
        show (((outRows (rowAt j)).view.emb x (0 : Fin 2) : Fin _) : ℕ) % 256 = (x 0).val
        rw [h0]; omega)
    | ⟨1, _⟩ => exact Fin.ext (by
        show (((outRows (rowAt j)).view.emb x (1 : Fin 2) : Fin _) : ℕ) = (x 1).val
        rw [h1]; omega)
  rw [hd, hi]

/-- What is written through a view of what another contents reads there is, under the view, that contents. -/
theorem write_eq_of_read {κ : Kind} {sp : Space} {s : Shape} {e : EltTy} {Val : EltTy → Type} (v : View sig κ sp s e)
    (g f : v.ty.Contents Val) (w : s.Idx → Val e) (h : v.read Val f = w) :
    ∀ i ∈ v.set, v.write Val g w Finset.univ i = f i := by
  intro i hi
  obtain ⟨x, -, rfl⟩ := Finset.mem_map.mp hi
  rw [View.write_emb_of_mem _ _ (Finset.mem_univ x), ← h, View.read_apply, cast_cast, cast_eq]

/-! ## The pieces of the buffers -/

/-- The elements of device `j`'s rows of the result, -/
abbrev rowsSet (j : Dev nD) : Finset S4096x512.Idx := (outRows (rowAt j)).view.set
/-- of weight buffer `i`, -/
abbrev wSet (i : Fin 2) : Finset S2x4096x512.Idx := (wSlot i).view.set
/-- and of send buffer `i`. -/
abbrev ySet (i : Fin 2) : Finset S2x256x512.Idx := (ySlot i).view.set

theorem rows_set (j : Dev nD) : rowsSet j = (Rect.unit (s := S4096x512) (rowAt j).1 S256x512.size (row_inb j)).set :=
  View.set_slice_whole _ _
theorem wslot_rect (i : Fin 2) :
    wSet i = (Rect.unit (s := S2x4096x512) ![i.val, 0, 0] S1x4096x512.size (w_inb i)).set :=
  (View.set_reshape (v := ((Memref.whole cc0_scratch0 : Memref sig .tc .vmem S2x4096x512 .f32).slice
    (Rect.unit (s := S2x4096x512) ![i.val, 0, 0] S1x4096x512.size (w_inb i)) (fun _ => rfl)).view) _).trans
    (View.set_slice_whole _ _)
theorem yslot_rect (i : Fin 2) :
    ySet i = (Rect.unit (s := S2x256x512) ![i.val, 0, 0] S1x256x512.size (y_inb i)).set :=
  (View.set_reshape (v := ((Memref.whole cc0_scratch1 : Memref sig .tc .vmem S2x256x512 .f32).slice
    (Rect.unit (s := S2x256x512) ![i.val, 0, 0] S1x256x512.size (y_inb i)) (fun _ => rfl)).view) _).trans
    (View.set_slice_whole _ _)

theorem rows_disjoint (j j' : Dev nD) (h : j ≠ j') : Disjoint (rowsSet j) (rowsSet j') := by
  rw [rows_set, rows_set]
  exact Ring.lead_disjoint (s := S4096x512) (NB := 16) 0 256 (fun j => (rowAt j).1) S256x512.size
    (fun j => row_inb j) (fun _ => rfl) rfl j j' h
theorem rows_cover : Finset.univ.biUnion rowsSet = Finset.univ := by
  rw [funext rows_set]
  exact Ring.lead_cover (s := S4096x512) (NB := 16) 0 256 (fun j => (rowAt j).1) S256x512.size
    (fun j => row_inb j) (fun _ => rfl) (by decide) rfl (by decide) rfl
theorem wslot_disjoint (i i' : Fin 2) (h : i ≠ i') : Disjoint (wSet i) (wSet i') := by
  rw [wslot_rect, wslot_rect]
  exact Ring.lead_disjoint (s := S2x4096x512) (NB := 2) 0 1 (fun i => ![i.val, 0, 0]) S1x4096x512.size
    (fun i => w_inb i) (by decide) rfl i i' h
theorem wslot_cover : Finset.univ.biUnion wSet = Finset.univ := by
  rw [funext wslot_rect]
  exact Ring.lead_cover (s := S2x4096x512) (NB := 2) 0 1 (fun i => ![i.val, 0, 0]) S1x4096x512.size
    (fun i => w_inb i) (by decide) (by decide) rfl (by decide) rfl
theorem yslot_disjoint (i i' : Fin 2) (h : i ≠ i') : Disjoint (ySet i) (ySet i') := by
  rw [yslot_rect, yslot_rect]
  exact Ring.lead_disjoint (s := S2x256x512) (NB := 2) 0 1 (fun i => ![i.val, 0, 0]) S1x256x512.size
    (fun i => y_inb i) (by decide) rfl i i' h
theorem yslot_cover : Finset.univ.biUnion ySet = Finset.univ := by
  rw [funext yslot_rect]
  exact Ring.lead_cover (s := S2x256x512) (NB := 2) 0 1 (fun i => ![i.val, 0, 0]) S1x256x512.size
    (fun i => y_inb i) (by decide) (by decide) rfl (by decide) rfl

/-- The elements of buffer `i` as the loads and stores reach them: those of the slot. -/
theorem wslot_set (i : Fin 2) : (Memref.whole cc0_scratch0 : Memref sig .tc .vmem S2x4096x512 .f32).view.setOn
      (Rect.unit (s := S2x4096x512) ![i.val, 0, 0] S1x4096x512.size (w_inb i)).set = wSet i := by
  rw [wslot_rect]; exact Finset.map_refl
theorem yslot_set (i : Fin 2) : (Memref.whole cc0_scratch1 : Memref sig .tc .vmem S2x256x512 .f32).view.setOn
      (Rect.unit (s := S2x256x512) ![i.val, 0, 0] S1x256x512.size (y_inb i)).set = ySet i := by
  rw [yslot_rect]; exact Finset.map_refl

/-- What a load of buffer `i` reads, from what its slot reads. -/
theorem load_wslot (i : Fin 2) (f : (cc0_scratch0 : Ref sig .tc).ty.Contents (Elt F)) (w : Vec F S4096x512 .f32)
    (h : (wSlot i).view.read (Elt F) f = w) :
    (Memref.whole cc0_scratch0 : Memref sig .tc .vmem S2x4096x512 .f32).view.readAt (Elt F)
      (Rect.unit (s := S2x4096x512) ![i.val, 0, 0] S1x4096x512.size (w_inb i)).toLoadRect f
      = shapeCast S1x4096x512 w casts_w := by
  subst h
  funext y
  show _ = (Memref.whole cc0_scratch0 : Memref sig .tc .vmem S2x4096x512 .f32).view.readAt (Elt F)
      (Rect.unit (s := S2x4096x512) ![i.val, 0, 0] S1x4096x512.size (w_inb i)).toLoadRect f
        (Shape.reshapeEquiv _ (Shape.reshapeEquiv _ y))
  rw [Shape.reshapeEquiv_reshapeEquiv, Shape.reshapeEquiv_self]

/-- What send buffer `i` reads after a store of `v` into it. -/
theorem read_stash (i : Fin 2) (f : (cc0_scratch1 : Ref sig .tc).ty.Contents (Elt F)) (v : FVec F S256x512 .f32) :
    (ySlot i).view.read (Elt F) (((Memref.whole cc0_scratch1 : Memref sig .tc .vmem S2x256x512 .f32).access
      (Rect.unit (s := S2x256x512) ![i.val, 0, 0] S1x256x512.size (y_inb i))).write (Elt F) f
        (shapeCast S1x256x512 v shapeCasts_S256x512_S1x256x512) Finset.univ) = v := by
  funext x
  show ((Memref.whole cc0_scratch1 : Memref sig .tc .vmem S2x256x512 .f32).access
      (Rect.unit (s := S2x256x512) ![i.val, 0, 0] S1x256x512.size (y_inb i))).read (Elt F) _
        (Shape.reshapeEquiv _ x) = _
  rw [View.read_write_univ]
  show v (Shape.reshapeEquiv _ (Shape.reshapeEquiv _ x)) = v x
  rw [Shape.reshapeEquiv_reshapeEquiv, Shape.reshapeEquiv_self]

end Cert.Exchange

end
-- ==== Proof.Exchange.Schedule.lean ====
/-
# The schedule of the exchange

Who pays which cell when, and what comes with the payment. A signal from device `d` to device `c` hands `c` the rows of
`d`'s result that `c` fills. A fetch hands its buffer back filled, and the half of the weights it read. A send hands
its buffer back to the sender, and to the receiver the sender's rows of the receiver's result, filled.

Every duty is named by the device that pays it.
-/
module

public import proofs.«01_k».proof.Proof.Exchange.Cells

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's rounds and the exchange's -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The pieces held -/

/-- Device `j`'s rows of the result on device `d`, at `f`. -/
def rowsPt (d j : Dev nD) (f : (cc0_stg1_0 : Ref sig .tc).ty.Contents (Elt F)) : sProp 𝕄 :=
  (outRows (rowAt j)).view.loc (d : Thread nD τ) ↦[(outRows (rowAt j)).view.set]{fullShare} f
/-- Weight buffer `i` of device `c`, at `f`. -/
def wPt (c : Dev nD) (i : Fin 2) (f : (cc0_scratch0 : Ref sig .tc).ty.Contents (Elt F)) : sProp 𝕄 :=
  (wSlot i).view.loc (c : Thread nD τ) ↦[(wSlot i).view.set]{fullShare} f
/-- Send buffer `i` of device `c`, at `f`. -/
def yPt (c : Dev nD) (i : Fin 2) (f : (cc0_scratch1 : Ref sig .tc).ty.Contents (Elt F)) : sProp 𝕄 :=
  (ySlot i).view.loc (c : Thread nD τ) ↦[(ySlot i).view.set]{fullShare} f
/-- The half of the full share that goes with weight buffer `i`. -/
def half (i : Fin 2) : PosShare TreeShare := match i with
  | ⟨0, _⟩ => (fullShare : PosShare TreeShare).left
  | ⟨_ + 1, _⟩ => (fullShare : PosShare TreeShare).right
/-- That half of device `c`'s weights. -/
def wHalf (c : Dev nD) (i : Fin 2) : sProp 𝕄 := ((c : Thread nD τ).loc main_arg1) ↦{half i} wAll m c

/-- Weight buffer `i` of device `c` holding the columns of device `j`, with the half of the weights back. -/
def wGot (c : Dev nD) (i : Fin 2) (j : Dev nD) : sProp 𝕄 :=
  iprop(∃ f, ⌜(wSlot i).view.read (Elt F) f = (wCols (colAt j)).view.read (Elt F) (wAll m c)⌝ ∗ wPt c i f ∗ wHalf m c i)

instance rowsPt_storable (d j : Dev nD) (f) : BI.Storable (upEmb : UEmb _ 𝕄) (rowsPt (F := F) d j f) := by
  unfold rowsPt; infer_instance
instance wPt_storable (c : Dev nD) (i : Fin 2) (f) : BI.Storable (upEmb : UEmb _ 𝕄) (wPt (F := F) c i f) := by
  unfold wPt; infer_instance
instance yPt_storable (c : Dev nD) (i : Fin 2) (f) : BI.Storable (upEmb : UEmb _ 𝕄) (yPt (F := F) c i f) := by
  unfold yPt; infer_instance
instance wHalf_storable (c : Dev nD) (i : Fin 2) : BI.Storable (upEmb : UEmb _ 𝕄) (wHalf (F := F) m c i) := by
  unfold wHalf; infer_instance
instance wGot_storable (c : Dev nD) (i : Fin 2) (j : Dev nD) : BI.Storable (upEmb : UEmb _ 𝕄) (wGot (F := F) m c i j) := by
  unfold wGot; infer_instance

/-! ## The schedule -/

/-- Who pays round `r` of a cell of kind `k` on device `c`. -/
def payers (k : Kd) (c : Dev nD) (r : ℕ) : Finset (Dev nD) := match k with
  | .bar => if r = 0 then Finset.univ.erase c else ∅
  | .w _ => if r < 8 then {c} else ∅
  | .s i => if r < 7 + i.val then {c} else ∅
  | .r j => if r = 0 ∧ j ≠ c then {j} else ∅
  | .other => ∅

/-- How much each pays. -/
def price (k : Kd) : ℕ := match k with
  | .bar => 1
  | .w _ => NW
  | .s _ => NY
  | .r _ => NY
  | .other => 1

/-- What comes with device `d`'s payment of round `r`. -/
def goods (k : Kd) (c : Dev nD) (r : ℕ) (d : Dev nD) : sProp 𝕄 := match k with
  | .bar => iprop(∃ f, rowsPt d c f)
  | .w i => wGot m c i (peer c (2 * r + i.val))
  | .s i => iprop(∃ f, yPt c i f)
  | .r j => rowsPt c j (outF m c)
  | .other => iprop(emp)

/-- The schedule of the exchange. -/
def Rd : Rounds.Schedule (GSem nD τ sig) (Dev nD) 𝕄 where
  duties g r := if g.1.2 = .tc then payers (kindOf g.2) g.1.1 r else ∅
  unitless _ := False
  amount g _ _ := price (kindOf g.2)
  payload g r d := goods m (kindOf g.2) g.1.1 r d
  amount_pos g _ _ _ := by
    unfold price
    split
    · exact Nat.one_pos
    · exact NW_pos
    · exact NY_pos
    · exact NY_pos
    · exact Nat.one_pos

instance Rd_storable (g : GSem nD τ sig) (r : ℕ) (d : Dev nD) :
    BI.Storable (upEmb : UEmb _ 𝕄) ((Rd (F := F) m).payload g r d) := by
  show BI.Storable upEmb (goods m (kindOf g.2) g.1.1 r d)
  unfold goods
  split <;> infer_instance

section Facts
variable (c : Dev nD)

theorem duties_eq (sm : SemLoc sig) (r : ℕ) : (Rd (F := F) m).duties ((c : Thread nD τ), sm) r = payers (kindOf sm) c r := by
  dsimp only [Rd]; exact if_pos rfl
theorem amount_eq (sm : SemLoc sig) (r : ℕ) (d : Dev nD) :
    (Rd (F := F) m).amount ((c : Thread nD τ), sm) r d = price (kindOf sm) := by dsimp only [Rd]
theorem payload_eq (sm : SemLoc sig) (r : ℕ) (d : Dev nD) :
    (Rd (F := F) m).payload ((c : Thread nD τ), sm) r d = goods m (kindOf sm) c r d := by dsimp only [Rd]

theorem duties_bar : (Rd (F := F) m).duties (barCell c) 0 = Finset.univ.erase c := by
  rw [duties_eq, kind_bar]; dsimp only [payers]; exact if_pos rfl
theorem duties_w (i : Fin 2) (r : ℕ) (h : r < 8) : (Rd (F := F) m).duties (wCell c i) r = {c} := by
  rw [duties_eq, kind_w]; dsimp only [payers]; exact if_pos h
theorem duties_s (i : Fin 2) (r : ℕ) (h : r < 7 + i.val) : (Rd (F := F) m).duties (sCell c i) r = {c} := by
  rw [duties_eq, kind_s]; dsimp only [payers]; exact if_pos h
theorem duties_r (j : Dev nD) (h : j ≠ c) : (Rd (F := F) m).duties (rCell c j) 0 = {j} := by
  rw [duties_eq, kind_r]; dsimp only [payers]; exact if_pos ⟨rfl, h⟩

theorem later_bar : ∀ r, 1 ≤ r → (Rd (F := F) m).duties (barCell c) r = ∅ := fun r h => by
  rw [duties_eq, kind_bar]; dsimp only [payers]; exact if_neg (by omega)
theorem later_w (i : Fin 2) : ∀ r, 8 ≤ r → (Rd (F := F) m).duties (wCell c i) r = ∅ := fun r h => by
  rw [duties_eq, kind_w]; dsimp only [payers]; exact if_neg (by omega)
theorem later_s (i : Fin 2) : ∀ r, 7 + i.val ≤ r → (Rd (F := F) m).duties (sCell c i) r = ∅ := fun r h => by
  rw [duties_eq, kind_s]; dsimp only [payers]; exact if_neg (by omega)
theorem later_r (j : Dev nD) : ∀ r, 1 ≤ r → (Rd (F := F) m).duties (rCell c j) r = ∅ := fun r h => by
  rw [duties_eq, kind_r]; dsimp only [payers]; exact if_neg (by omega)
theorem never_r : ∀ r, 0 ≤ r → (Rd (F := F) m).duties (rCell c c) r = ∅ := fun r _ => by
  rw [duties_eq, kind_r]; dsimp only [payers]; exact if_neg (fun h => h.2 rfl)

theorem price_bar (r : ℕ) (d : Dev nD) : (Rd (F := F) m).amount (barCell c) r d = 1 := by rw [amount_eq, kind_bar]; dsimp only [price]
theorem price_w (i : Fin 2) (r : ℕ) (d : Dev nD) : (Rd (F := F) m).amount (wCell c i) r d = NW := by
  rw [amount_eq, kind_w]; dsimp only [price]
theorem price_s (i : Fin 2) (r : ℕ) (d : Dev nD) : (Rd (F := F) m).amount (sCell c i) r d = NY := by
  rw [amount_eq, kind_s]; dsimp only [price]
theorem price_r (j : Dev nD) (r : ℕ) (d : Dev nD) : (Rd (F := F) m).amount (rCell c j) r d = NY := by
  rw [amount_eq, kind_r]; dsimp only [price]

theorem expect_bar : (Rd (F := F) m).expect (barCell c) 0 = 15 := by
  unfold Schedule.expect Schedule.amountOf
  rw [duties_bar, Finset.sum_congr rfl fun d _ => price_bar m c 0 d, Finset.sum_const,
    Finset.card_erase_of_mem (Finset.mem_univ c), Finset.card_univ]
  rfl
theorem expect_w (i : Fin 2) (r : ℕ) (h : r < 8) : (Rd (F := F) m).expect (wCell c i) r = NW := by
  unfold Schedule.expect Schedule.amountOf; rw [duties_w m c i r h, Finset.sum_singleton, price_w]
theorem expect_s (i : Fin 2) (r : ℕ) (h : r < 7 + i.val) : (Rd (F := F) m).expect (sCell c i) r = NY := by
  unfold Schedule.expect Schedule.amountOf; rw [duties_s m c i r h, Finset.sum_singleton, price_s]
theorem expect_r (j : Dev nD) (h : j ≠ c) : (Rd (F := F) m).expect (rCell c j) 0 = NY := by
  unfold Schedule.expect Schedule.amountOf; rw [duties_r m c j h, Finset.sum_singleton, price_r]

theorem goods_bar (r : ℕ) (d : Dev nD) : (Rd (F := F) m).payload (barCell c) r d = iprop(∃ f, rowsPt d c f) := by
  rw [payload_eq, kind_bar]; dsimp only [goods]
theorem goods_w (i : Fin 2) (r : ℕ) (d : Dev nD) :
    (Rd (F := F) m).payload (wCell c i) r d = wGot m c i (peer c (2 * r + i.val)) := by
  rw [payload_eq, kind_w]; dsimp only [goods]
theorem goods_s (i : Fin 2) (r : ℕ) (d : Dev nD) : (Rd (F := F) m).payload (sCell c i) r d = iprop(∃ f, yPt c i f) := by
  rw [payload_eq, kind_s]; dsimp only [goods]
theorem goods_r (j : Dev nD) (r : ℕ) (d : Dev nD) : (Rd (F := F) m).payload (rCell c j) r d = rowsPt c j (outF m c) := by
  rw [payload_eq, kind_r]; dsimp only [goods]

theorem rest_bar : bigSep ((Rd (F := F) m).duties (barCell c) 0 \ ∅) (fun d => (Rd (F := F) m).payload (barCell c) 0 d)
    = bigSep (Finset.univ.erase c) (fun d => iprop(∃ f, rowsPt (F := F) d c f)) := by
  rw [Finset.sdiff_empty, duties_bar]; exact bigSep_congr fun d _ => goods_bar m c 0 d
theorem rest_w (i : Fin 2) (r : ℕ) (h : r < 8) :
    bigSep ((Rd (F := F) m).duties (wCell c i) r \ ∅) (fun d => (Rd (F := F) m).payload (wCell c i) r d)
      = wGot m c i (peer c (2 * r + i.val)) := by
  rw [Finset.sdiff_empty, duties_w m c i r h, bigSep_singleton, goods_w]
theorem rest_s (i : Fin 2) (r : ℕ) (h : r < 7 + i.val) :
    bigSep ((Rd (F := F) m).duties (sCell c i) r \ ∅) (fun d => (Rd (F := F) m).payload (sCell c i) r d)
      = iprop(∃ f, yPt (F := F) c i f) := by
  rw [Finset.sdiff_empty, duties_s m c i r h, bigSep_singleton, goods_s]
theorem rest_r (j : Dev nD) (h : j ≠ c) :
    bigSep ((Rd (F := F) m).duties (rCell c j) 0 \ ∅) (fun d => (Rd (F := F) m).payload (rCell c j) 0 d)
      = rowsPt c j (outF m c) := by
  rw [Finset.sdiff_empty, duties_r m c j h, bigSep_singleton, goods_r]

end Facts

/-! ## What each device owes, and the levels -/

/-- What device `c` owes before signal `k`, the sends apart: the signals from there on. -/
def Osig (c : Dev nD) (k : ℕ) : CellTallies nD τ sig Unit := ∑ i ∈ Finset.Ico k 15, tallyAt (barCell (peer c (i + 1))) () 1
/-- What it owes before step `s`: the sends from there on. -/
def Osend (c : Dev nD) (s : ℕ) : CellTallies nD τ sig Unit := ∑ k ∈ Finset.Ico s 16, tallyAt (rCell (peer c k) c) () NY
/-- What it owes at launch. -/
def O₀ (c : Dev nD) : CellTallies nD τ sig Unit := Osend c 1 + Osig c 0

/-- The first of a range, and the rest. -/
theorem Ico_first {a b : ℕ} (h : a < b) : Finset.Ico a b = insert a (Finset.Ico (a + 1) b) := by
  ext x; simp only [Finset.mem_Ico, Finset.mem_insert]; omega
theorem first_notMem (a b : ℕ) : a ∉ Finset.Ico (a + 1) b := by simp

theorem Osig_succ (c : Dev nD) (k : ℕ) (h : k < 15) : Osig c k = Osig c (k + 1) + tallyAt (barCell (peer c (k + 1))) () 1 := by
  unfold Osig; rw [Ico_first h, Finset.sum_insert (first_notMem k _), add_comm]
theorem Osig_end (c : Dev nD) : Osig c 15 = 0 := by unfold Osig; simp
theorem Osend_succ (c : Dev nD) (k : ℕ) (h : k < 16) : Osend c k = Osend c (k + 1) + tallyAt (rCell (peer c k) c) () NY := by
  unfold Osend; rw [Ico_first h, Finset.sum_insert (first_notMem k _), add_comm]
theorem Osend_end (c : Dev nD) : Osend c 16 = 0 := by unfold Osend; simp

/-- A cell of a core has a level: -/
def L (g : GSem nD τ sig) : Finset Unit := if g.1.2 = .tc then {()} else ∅
/-- a barrier 1, a receive cell 2, every other 0. -/
def lv (g : GSem nD τ sig) (_ : Unit) : ℕ := match kindOf g.2 with
  | .bar => 1
  | .r _ => 2
  | _ => 0

theorem L_of_ne (g : GSem nD τ sig) (h : g.1.2 ≠ .tc) : L g = ∅ := if_neg h
theorem L_tc (c : Dev nD) (sm : SemLoc sig) : L ((c : Thread nD τ), sm) = {()} := if_pos rfl

/-- A cell owed is a barrier or a receive cell of a core; once the signals are paid, a receive cell. -/
theorem Osig_pos {c : Dev nD} {k : ℕ} {g : GSem nD τ sig} {u : Unit} (h : 0 < Osig c k g u) :
    ∃ i, g = barCell (peer c (i + 1)) := by
  by_contra hn
  rw [not_exists] at hn
  unfold Osig at h
  rw [Finset.sum_apply, Finsupp.finset_sum_apply, Finset.sum_eq_zero fun i _ => by
    rw [tallyAt_apply, if_neg fun h' => hn i h'.1]] at h
  exact Nat.lt_irrefl 0 h
theorem Osend_pos {c : Dev nD} {s : ℕ} {g : GSem nD τ sig} {u : Unit} (h : 0 < Osend c s g u) :
    ∃ k, g = rCell (peer c k) c := by
  by_contra hn
  rw [not_exists] at hn
  unfold Osend at h
  rw [Finset.sum_apply, Finsupp.finset_sum_apply, Finset.sum_eq_zero fun i _ => by
    rw [tallyAt_apply, if_neg fun h' => hn i h'.1]] at h
  exact Nat.lt_irrefl 0 h
theorem O₀_pos {c : Dev nD} {g : GSem nD τ sig} {u : Unit} (h : 0 < O₀ c g u) :
    (∃ i, g = barCell (peer c (i + 1))) ∨ ∃ k, g = rCell (peer c k) c := by
  unfold O₀ at h
  rw [Pi.add_apply, Finsupp.add_apply] at h
  rcases Nat.pos_of_ne_zero (by omega : Osend c 1 g u + Osig c 0 g u ≠ 0) |> fun _ =>
    (by omega : 0 < Osend c 1 g u ∨ 0 < Osig c 0 g u) with h' | h'
  · exact Or.inr (Osend_pos h')
  · exact Or.inl (Osig_pos h')

theorem lv_bar (c : Dev nD) (u : Unit) : lv (barCell c) u = 1 := rfl
theorem lv_r (c j : Dev nD) (u : Unit) : lv (rCell c j) u = 2 := by unfold lv; rw [kind_r]

/-- A wait on a cell of level 0 is allowed whatever of the exchange is owed. -/
theorem mayWait_low (c : Dev nD) (sm : SemLoc sig) (h0 : lv ((c : Thread nD τ), sm) () = 0) (O : CellTallies nD τ sig Unit)
    (hO : O = O₀ c ∨ (∃ s, O = Osend c s)) : (levAts L lv : sProp 𝕄) ⊢ MayWait (c : Thread nD τ) sm () O := by
  have key : ∀ g u, 0 < O g u → (∃ d, g = barCell d) ∨ ∃ d j, g = rCell d j := by
    intro g u h
    rcases hO with rfl | ⟨s, rfl⟩
    · rcases O₀_pos h with ⟨i, rfl⟩ | ⟨k, rfl⟩
      · exact Or.inl ⟨_, rfl⟩
      · exact Or.inr ⟨_, _, rfl⟩
    · obtain ⟨k, rfl⟩ := Osend_pos h
      exact Or.inr ⟨_, _, rfl⟩
  refine MayOwe.of_cut (L := L) (lev := lv) 0 (fun p hp => by rw [Finset.mem_singleton.mp hp, L_tc]; exact Finset.mem_singleton_self _)
    (fun g u hg => by
      rcases key g u hg with ⟨d, rfl⟩ | ⟨d, j, rfl⟩ <;> (rw [L_tc]; exact Finset.mem_singleton_self _))
    (fun p hp => by rw [Finset.mem_singleton.mp hp]; exact h0.le)
    (fun g u hg => by
      rcases key g u hg with ⟨d, rfl⟩ | ⟨d, j, rfl⟩
      · rw [lv_bar]; decide
      · rw [lv_r]; decide)

/-- The barrier wait is allowed once only sends are owed. -/
theorem mayWait_bar (c : Dev nD) (s : ℕ) :
    (levAts L lv : sProp 𝕄) ⊢ MayWait (c : Thread nD τ) (.reg barS) () (Osend c s) :=
  MayOwe.of_cut (L := L) (lev := lv) 1 (fun p hp => by rw [Finset.mem_singleton.mp hp, L_tc]; exact Finset.mem_singleton_self _)
    (fun g u hg => by obtain ⟨k, rfl⟩ := Osend_pos hg; rw [L_tc]; exact Finset.mem_singleton_self _)
    (fun p hp => by rw [Finset.mem_singleton.mp hp]; exact (lv_bar c ()).le)
    (fun g u hg => by obtain ⟨k, rfl⟩ := Osend_pos hg; rw [lv_r]; decide)

theorem lv_w (c : Dev nD) (i : Fin 2) : lv (wCell c i) () = 0 := by unfold lv; rw [kind_w]
theorem lv_s (c : Dev nD) (i : Fin 2) : lv (sCell c i) () = 0 := by unfold lv; rw [kind_s]

end Cert.Exchange

end
-- ==== Proof.Exchange.Steps.lean ====
/-
# The rule of each kind of step

A step is described by what it takes and what it gives: `Tr c e P P'` says that device `c`, holding `P`, runs `e` and
holds `P'`. Below are the rule of each kind of step, and how steps in a row compose.
-/
module

public import proofs.«01_k».proof.Proof.Exchange.Schedule

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## Steps described by what they take and give -/

/-- Device `c`, holding `P`, runs `e` and then holds `P'`. -/
def Tr (c : Dev nD) (e : Step F) (P P' : sProp 𝕄) : Prop :=
  ∀ Q : PUnit → sProp 𝕄, iprop(P ∗ (P' -∗ Q ⟨⟩)) ⊢ wp frame (wpE (defs₀ (F := F)) 𝒱₀ (c : Thread nD τ) none) Set.univ e Q

variable {c : Dev nD} {e e' : Step F} {P P' P'' : sProp (MT nD τ sig Unit (Elt F) ℕ UU ℕ)}

theorem Tr.run (h : Tr c e P P') (Q : PUnit → sProp 𝕄) : iprop(P ∗ (P' -∗ Q ⟨⟩))
    ⊢ wp frame (wpE (defs₀ (F := F)) 𝒱₀ (c : Thread nD τ) none) Set.univ e Q := h Q

theorem Tr.seq (h : Tr c e P P') (h' : Tr c e' P' P'') : Tr c (e >>= fun _ => e') P P'' := fun Q => by
  rw [wp_bind]
  iintro ⟨HP, Hk⟩
  iapply (h.run _)
  isplitl [HP]; · iexact HP
  iintro HP'
  iapply (h'.run Q)
  isplitl [HP']; · iexact HP'
  iexact Hk

theorem Tr.keep (h : Tr c e P P') (R : sProp 𝕄) : Tr c e iprop(P ∗ R) iprop(P' ∗ R) := fun Q => by
  iintro ⟨⟨HP, HR⟩, Hk⟩
  iapply (h.run Q)
  isplitl [HP]; · iexact HP
  iintro HP'
  iapply Hk
  isplitl [HP']; · iexact HP'
  iexact HR

theorem Tr.of (h : Tr c e P P') {P₁ P₁' : sProp 𝕄} (hP : P₁ ⊢ P) (hP' : P' ⊢ P₁') : Tr c e P₁ P₁' := fun Q => by
  iintro ⟨HP, Hk⟩
  iapply (h.run Q)
  isplitl [HP]
  · iapply hP; iexact HP
  iintro HP'
  iapply Hk
  iapply hP'; iexact HP'

theorem Tr.done : Tr c (pure ⟨⟩ : Step F) P P := fun Q => by
  rw [Prog.pure_eq_ret, wp_ret]
  iintro ⟨HP, Hk⟩
  imodintro
  iapply Hk; iexact HP

/-- A range of steps, each taking what the one before gave, and then the rest. -/
theorem Tr.range (f : ℕ → Step F) (St : ℕ → sProp 𝕄) (es : List (Step F)) (n : ℕ) :
    ∀ a, (∀ k, a ≤ k → k < a + n → Tr c (f k) (St k) (St (k + 1))) → Tr c (Pipeline.chain es) (St (a + n)) P' →
      Tr c (Pipeline.chain ((List.range' a n).map f ++ es)) (St a) P' := by
  induction n with
  | zero => intro a _ h; exact h
  | succ n ih =>
    intro a hs h
    rw [List.range'_succ, List.map_cons, List.cons_append, Pipeline.chain_cons]
    refine Tr.seq (hs a (le_refl a) (by omega)) (ih (a + 1) (fun k h1 h2 => hs k (by omega) (by omega)) ?_)
    rw [show a + 1 + n = a + (n + 1) by omega]; exact h

/-! ## What every step may use -/

variable (m : (ℓ : Loc nD τ sig) → Buf (Elt F) ℓ) (K : Dev nD × Fin 21 → ℕ)

/-- The invariants of all cells, at the names `K`, that every cell has reached round 0, and the levels. -/
def facts : sProp 𝕄 :=
  iprop((bigSep Finset.univ fun ck : Dev nD × Fin 21 => cellInv ER (Rd m) (K ck) (kcell ck))
    ∗ (bigSep Finset.univ fun ck : Dev nD × Fin 21 => reached ER (kcell ck) 0) ∗ levAts L lv)

instance facts_persistent : BI.Persistent (facts m K) := by unfold facts; infer_instance

theorem facts_inv (ck : Dev nD × Fin 21) : facts m K ⊢ cellInv ER (Rd m) (K ck) (kcell ck) := by
  unfold facts
  exact (BI.sep_and.trans BI.and_elimL).trans
    (bigSep_elim (Φ := fun ck : Dev nD × Fin 21 => cellInv ER (Rd m) (K ck) (kcell ck)) (Finset.mem_univ ck))
theorem facts_reached (ck : Dev nD × Fin 21) : facts m K ⊢ reached ER (kcell ck) 0 := by
  unfold facts
  exact (BI.sep_and.trans BI.and_elimR).trans ((BI.sep_and.trans BI.and_elimL).trans
    (bigSep_elim (Φ := fun ck : Dev nD × Fin 21 => reached ER (kcell ck) 0) (Finset.mem_univ ck)))
theorem facts_lev : facts m K ⊢ levAts L lv := by
  unfold facts
  iintro ⟨-, -, H⟩
  iexact H

theorem inv_bar (d : Dev nD) : facts m K ⊢ cellInv ER (Rd m) (K (d, kBar)) (barCell d) := facts_inv m K (d, kBar)
theorem inv_w (d : Dev nD) (i : Fin 2) : facts m K ⊢ cellInv ER (Rd m) (K (d, kW i)) (wCell d i) := by
  have h := facts_inv m K (d, kW i); unfold kcell at h; rw [csem_w] at h; exact h
theorem inv_s (d : Dev nD) (i : Fin 2) : facts m K ⊢ cellInv ER (Rd m) (K (d, kS i)) (sCell d i) := by
  have h := facts_inv m K (d, kS i); unfold kcell at h; rw [csem_s] at h; exact h
theorem inv_r (d j : Dev nD) : facts m K ⊢ cellInv ER (Rd m) (K (d, kR j)) (rCell d j) := by
  have h := facts_inv m K (d, kR j); unfold kcell at h; rw [csem_r] at h; exact h
theorem reached_bar (d : Dev nD) : facts m K ⊢ reached ER (barCell d) 0 := facts_reached m K (d, kBar)
theorem reached_r (d j : Dev nD) : facts m K ⊢ reached ER (rCell d j) 0 := by
  have h := facts_reached m K (d, kR j); unfold kcell at h; rw [csem_r] at h; exact h
theorem reached_w (d : Dev nD) (i : Fin 2) : facts m K ⊢ reached ER (wCell d i) 0 := by
  have h := facts_reached m K (d, kW i); unfold kcell at h; rw [csem_w] at h; exact h
theorem reached_s (d : Dev nD) (i : Fin 2) : facts m K ⊢ reached ER (sCell d i) 0 := by
  have h := facts_reached m K (d, kS i); unfold kcell at h; rw [csem_s] at h; exact h

set_option maxRecDepth 8000 in
theorem may_bar (c : Dev nD) (s : ℕ) : facts m K ⊢ MayWait (c : Thread nD τ) (.reg barS) () (Osend c s) :=
  (facts_lev m K).trans (mayWait_bar c s)
set_option maxRecDepth 8000 in
theorem may_low (c : Dev nD) (sm : SemLoc sig) (h : lv ((c : Thread nD τ), sm) () = 0) (s : ℕ) :
    facts m K ⊢ MayWait (c : Thread nD τ) sm () (Osend c s) :=
  (facts_lev m K).trans (mayWait_low c sm h _ (Or.inr ⟨s, rfl⟩))

/-- Device `c` owes `O`, whatever it waited for. -/
def owesO (c : Dev nD) (O : CellTallies nD τ sig Unit) : sProp 𝕄 := iprop(∃ W, owes (c : Thread nD τ) O W)

/-! ## The entry -/

theorem peer_ne (c : Dev nD) (k : ℕ) (h0 : 0 < k) (h : k < 16) : peer c k ≠ c := fun e => by
  have e' := congrArg Fin.val e
  have hc : c.val < 16 := c.isLt
  change (c.val + k) % 16 = c.val at e'
  omega

/-- A signal pays a unit of the target's barrier, and hands the target its rows of the sender's result. -/
theorem tr_sig (k : ℕ) (hk : k < 15) : Tr c (sigAt c k)
    iprop(facts m K ∗ owesO c (Osend c 1 + Osig c k) ∗ dutyTok ER (barCell (peer c (k + 1))) 0 c
      ∗ ∃ f, rowsPt c (peer c (k + 1)) f)
    (owesO c (Osend c 1 + Osig c (k + 1))) := fun Q => by
  unfold sigAt sig1 semSignalWord owesO
  iintro ⟨⟨#HF, ⟨%W, HO⟩, Ht, Hp⟩, Hk⟩
  iapply (Rounds.wp_signal 𝒱₀ ER (Rd m) (c : Thread nD τ) none (dst := (peer c (k + 1) : Thread nD τ))
      (κ := K (peer c (k + 1), kBar)) (r := 0) (d := c) (O₀ := Osend c 1 + Osig c k)
      (by rw [duties_bar]; exact Finset.mem_erase.mpr ⟨(peer_ne c (k + 1) (by omega) (by omega)).symm, Finset.mem_univ _⟩)
      ((price_bar m (peer c (k + 1)) 0 c).trans (by decide)) () (Osend c 1 + Osig c (k + 1))
      (by rw [Osig_succ c k hk, ← add_assoc]; rfl)) $$ [HO Ht Hp]
  · isplitr; · iapply (inv_bar m K (peer c (k + 1))); iexact HF
    isplitl [HO]; · iexact HO
    isplitl [Ht]; · iexact Ht
    isplitl [Hp]; · rw [goods_bar]; iexact Hp
    iapply (reached_bar m K (peer c (k + 1))); iexact HF
  iintro HO
  rw [wp_ret]; imodintro
  iapply Hk
  iexists W; iexact HO

/-- The wait for the fifteen signals gives the device's rows of every other device's result. -/
theorem tr_bar : Tr c barWait
    iprop(facts m K ∗ owesO c (Osend c 1) ∗ cred (tallyAt (barCell c) () 15) ∗ atPos ER (barCell c) 0 ∅ 0)
    iprop(owesO c (Osend c 1) ∗ atPos ER (barCell c) 1 ∅ 0 ∗ bigSep (Finset.univ.erase c) fun d => iprop(∃ f, rowsPt d c f)) :=
  fun Q => by
  unfold barWait semWaitWord owesO
  iintro ⟨⟨#HF, ⟨%W, HO⟩, Hc, Hat⟩, Hk⟩
  iapply (Rounds.wp_wait_rest_token 𝒱₀ ER (Rd m) (c : Thread nD τ) none (κ := K (c, kBar))
      (wpE_semWait_eq 𝒱₀ (c : Thread nD τ) none Set.univ) (Set.mem_univ _) () (O := Osend c 1) (W := W) (R := 0) (m := 0)
      (T := ∅) (by rw [expect_bar]; simp)) $$ [Hc HO Hat]
  · isplitr; · iapply (inv_bar m K c); iexact HF
    isplitl [Hc]; · iexact Hc
    isplitl [HO]; · iexact HO
    isplitr
    · iapply (may_bar m K c 1); iexact HF
    iexact Hat
  iintro ⟨HO, Hat, -, Hp⟩
  rw [wp_ret]; imodintro
  iapply Hk
  isplitl [HO]; · iexists _; iexact HO
  isplitl [Hat]; · iexact Hat
  iapply (Entails.of_eq (rest_bar m c)); iexact Hp

/-! ## The fetches -/

/-- The weight buffer of step `s` free, before its fetch, -/
def wFree (c : Dev nD) (s : ℕ) : sProp 𝕄 :=
  iprop((∃ f, wPt c (par s) f) ∗ wHalf m c (par s) ∗ atPos ER (wCell c (par s)) (s / 2) ∅ 0
    ∗ reached ER (wCell c (par s)) (s / 2))
/-- and after it has started. -/
def wBusy (c : Dev nD) (s : ℕ) : sProp 𝕄 :=
  iprop(cred (tallyAt (wCell c (par s)) () NW) ∗ atPos ER (wCell c (par s)) (s / 2) ∅ 0)

theorem two_halves (s : ℕ) : 2 * (s / 2) + (par s).val = s := by show 2 * (s / 2) + s % 2 = s; omega

theorem tr_wStart (s : ℕ) (hs : s < 16) : Tr c (wStart (colAt (peer c s)) (par s))
    iprop(facts m K ∗ wFree m c s ∗ dutyTok ER (wCell c (par s)) (s / 2) c)
    (wBusy c s) := fun Q => by
  unfold wStart wFree wBusy wPt wHalf
  rw [Prog.lift]
  iintro ⟨⟨#HF, ⟨⟨%f, Hw⟩, Hh, Hat, #Hr⟩, Ht⟩, Hk⟩
  ihave Hs := (pointsTo_split_subset (Finset.subset_univ (wCols (colAt (peer c s))).view.set)).1 $$ Hh
  icases Hs with ⟨Hc, Hrest⟩
  ihave Hu := (pointsTo_writeUpdate (c : Thread nD τ) (v := (wSlot (par s)).view)
    (w := (wCols (colAt (peer c s))).view.read (Elt F) (wAll m c)) subset_rfl) $$ Hw
  ihave Hu' := (writeUpdate_frame (c : Thread nD τ)) $$ [Hu Hrest]
  · isplitl [Hu]; · iexact Hu
    iexact Hrest
  iapply (Rounds.wp_copy 𝒱₀ ER (Rd m) (c : Thread nD τ) none (κ := K (c, kW (par s))) (r := s / 2) (d := c)
      (src := wCols (colAt (peer c s))) (dst := wSlot (par s)) (sem := .dma (wSem (par s))) (q := half (par s)) (fs := wAll m c)
      (R := iprop(((wSlot (par s)).view.loc (c : Thread nD τ) ↦[(wSlot (par s)).view.set]{fullShare}
          (wSlot (par s)).view.write (Elt F) f ((wCols (colAt (peer c s))).view.read (Elt F) (wAll m c)) Finset.univ)
        ∗ (((c : Thread nD τ).loc main_arg1) ↦[Finset.univ \ (wCols (colAt (peer c s))).view.set]{half (par s)} wAll m c)))
      (by rw [duties_w m c _ _ (by omega)]; exact Finset.mem_singleton_self _) () NW (amount_w (par s)) (price_w m c _ _ c)
      (by
        rw [goods_w, two_halves]
        unfold wGot wPt wHalf
        iintro ⟨⟨Hw, Hrest⟩, Hc⟩
        iexists ((wSlot (par s)).view.write (Elt F) f ((wCols (colAt (peer c s))).view.read (Elt F) (wAll m c)) Finset.univ)
        isplitr
        · ipureintro; exact View.read_write_univ (v := (wSlot (par s)).view) f _
        isplitl [Hw]; · iexact Hw
        iapply (pointsTo_split_subset (Finset.subset_univ (wCols (colAt (peer c s))).view.set)).2
        isplitl [Hc]; · iexact Hc
        iexact Hrest)) $$ [Hc Hu' Ht]
  · isplitr; · iapply (inv_w m K c (par s)); iexact HF
    isplitl [Hc]; · iexact Hc
    isplitl [Hu']; · iexact Hu'
    isplitl [Ht]; · iexact Ht
    iexact Hr
  iintro Hcr
  rw [wp_ret]; imodintro
  iapply Hk
  isplitl [Hcr]; · iexact Hcr
  iexact Hat

theorem tr_wWait (s t : ℕ) (hs : s < 16) : Tr c (wWait (colAt (peer c s)) (par s))
    iprop(facts m K ∗ owesO c (Osend c t) ∗ wBusy c s)
    iprop(owesO c (Osend c t) ∗ wGot m c (par s) (peer c s) ∗ atPos ER (wCell c (par s)) (s / 2 + 1) ∅ 0
      ∗ reached ER (wCell c (par s)) (s / 2 + 1)) := fun Q => by
  unfold wWait wBusy owesO
  rw [Prog.lift]
  iintro ⟨⟨#HF, ⟨%W, HO⟩, Hc, Hat⟩, Hk⟩
  iapply (Rounds.wp_wait_rest_token 𝒱₀ ER (Rd m) (c : Thread nD τ) none (κ := K (c, kW (par s))) (k' := NW)
      (fun Kt => (wpE_waitDma2_eq 𝒱₀ (c : Thread nD τ) none Set.univ Kt).trans (congrArg (fun n => waitSpec _ _ _ n Kt) (credit_w (par s)))) (Set.mem_univ _) () (O := Osend c t) (W := W) (R := s / 2) (m := 0)
      (T := ∅) (by rw [expect_w m c _ _ (by omega), Nat.zero_add])) $$ [Hc HO Hat]
  · isplitr; · iapply (inv_w m K c (par s)); iexact HF
    isplitl [Hc]; · iexact Hc
    isplitl [HO]; · iexact HO
    isplitr
    · iapply (may_low m K c _ (lv_w c (par s)) t); iexact HF
    iexact Hat
  iintro ⟨HO, Hat, Hr, Hp⟩
  rw [wp_ret]; imodintro
  iapply Hk
  isplitl [HO]; · iexists _; iexact HO
  isplitl [Hp]
  · ihave Hp' := (Entails.of_eq (rest_w m c (par s) (s / 2) (by omega))) $$ Hp
    rw [two_halves]; iexact Hp'
  isplitl [Hat]; · iexact Hat
  iexact Hr

end Cert.Exchange

end
-- ==== Proof.Exchange.Blocks.lean ====
/-
# The rules of the blocks: compute, keep, send, receive
-/
module

public import proofs.«01_k».proof.Proof.Exchange.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {c : Dev nD} {P P' : sProp (MT nD τ sig Unit (Elt F) ℕ UU ℕ)}
variable (m : (ℓ : Loc nD τ sig) → Buf (Elt F) ℓ) (K : Dev nD × Fin 21 → ℕ)

/-- Device `c`'s staged rows of the left operand. -/
def xPt (c : Dev nD) : sProp 𝕄 := ((c : Thread nD τ).loc cc0_stg0_0) ↦{fullShare} xstg m c

theorem zero_two : (![0, 0] : Fin 2 → Nat) = fun _ => 0 := funext fun a => by fin_cases a <;> rfl

/-- A compute reads the device's rows and the fetched columns of device `j`, and passes on the block for `j`. -/
theorem tr_compute (i : Fin 2) (j : Dev nD) (k : FVec F S256x512 .f32 → Step F) (h : Tr c (k (blkOf m c j)) P P') :
    Tr c (compute i k) iprop(xPt m c ∗ wGot m c i j ∗ P) iprop(xPt m c ∗ (∃ f, wPt c i f) ∗ wHalf m c i ∗ P') := fun Q => by
  unfold compute xPt wGot wPt
  simp only [Prog.lift, Prog.bind_op, Prog.bind_ret]
  iintro ⟨⟨Hx, ⟨%f, %hf, Hw, Hh⟩, HP⟩, Hk⟩
  iapply (wp_load 𝒱₀ (c : Thread nD τ) none Set.univ (m := Memref.whole cc0_stg0_0) (Finset.subset_univ _)) $$ Hx
  iintro Hx
  iapply (wp_load 𝒱₀ (c : Thread nD τ) none Set.univ (m := Memref.whole cc0_scratch0) (S := wSet i) (by rw [wslot_set])) $$ Hw
  iintro Hw
  rw [load_wslot i f _ hf, show (Memref.whole cc0_stg0_0 : Memref sig .tc .vmem S256x4096 .f32).view.readAt (Elt F)
      (Rect.unit (s := S256x4096) ![0, 0] S256x4096.size inb_S256x4096_S256x4096_0_0).toLoadRect (xstg m c) = xstg m c
    from Memref.readAt_unit_zero (Elt F) cc0_stg0_0 zero_two _ _]
  iapply (h.run Q)
  isplitl [HP]; · iexact HP
  iintro HP
  iapply Hk
  isplitl [Hx]; · iexact Hx
  isplitl [Hw]; · iexists f; iexact Hw
  isplitl [Hh]; · iexact Hh
  iexact HP

theorem rows_setOn (o : RowOff) : (Memref.whole cc0_stg1_0 : Memref sig .tc .vmem S4096x512 .f32).view.setOn
      (Rect.unit (s := S4096x512) o.1 S256x512.size o.2).set = (outRows o).view.set :=
  (View.set_slice _ _).symm

/-- Keeping the device's own block makes its own rows of its result. -/
theorem tr_keep : Tr c (keep (rowAt c) (blkOf m c c)) iprop(∃ f, rowsPt c c f) (rowsPt c c (outF m c)) := fun Q => by
  unfold Exchange.keep rowsPt
  simp only [Prog.lift, Prog.bind_op, Prog.bind_ret]
  iintro ⟨⟨%f, H⟩, Hk⟩
  iapply (wp_load 𝒱₀ (c : Thread nD τ) none Set.univ (m := Memref.whole cc0_stg1_0) (S := rowsSet c)
    (rows_setOn (rowAt c)).subset) $$ H
  iintro H
  iapply (wp_store 𝒱₀ (c : Thread nD τ) none Set.univ (m := Memref.whole cc0_stg1_0)
    (r := Rect.unit (s := S4096x512) (rowAt c).1 S256x512.size (rowAt c).2) (Mk := Finset.univ) (S := rowsSet c) subset_rfl) $$ H
  iintro H
  rw [wp_ret]; imodintro
  iapply Hk
  iapply (Entails.of_eq (pointsTo_congr (write_eq_of_read (outRows (rowAt c)).view f (outF m c) _ (read_outF m c c))))
  iexact H

/-- A send buffer takes a block. -/
theorem tr_stash (i : Fin 2) (v : FVec F S256x512 .f32) : Tr c (stash i v) iprop(∃ f, yPt c i f)
    iprop(∃ f, ⌜(ySlot i).view.read (Elt F) f = v⌝ ∗ yPt c i f) := fun Q => by
  unfold stash yPt
  simp only [Prog.lift, Prog.bind_op, Prog.bind_ret]
  iintro ⟨⟨%f, H⟩, Hk⟩
  iapply (wp_load 𝒱₀ (c : Thread nD τ) none Set.univ (m := Memref.whole cc0_scratch1) (S := ySet i)
    (yslot_set i).subset) $$ H
  iintro H
  iapply (wp_store 𝒱₀ (c : Thread nD τ) none Set.univ (m := Memref.whole cc0_scratch1)
    (r := Rect.unit (s := S2x256x512) ![i.val, 0, 0] S1x256x512.size (y_inb i)) (Mk := Finset.univ) (S := ySet i)
    ((yslot_rect i).symm ▸ (View.set_slice_whole cc0_scratch1 _).subset)) $$ H
  iintro H
  rw [wp_ret]; imodintro
  iapply Hk
  iexists _
  isplitr
  · ipureintro; exact read_stash i f v
  iexact H

/-! ## The sends -/

/-- The send buffer of step `k` free, before its send, -/
def sFree (c : Dev nD) (k : ℕ) : sProp 𝕄 :=
  iprop((∃ f, yPt c (par k) f) ∗ atPos ER (sCell c (par k)) ((k - 1) / 2) ∅ 0 ∗ reached ER (sCell c (par k)) ((k - 1) / 2))
/-- and buffer `i` on its way, in round `r` of its semaphore. -/
def sBusy (c : Dev nD) (i : Fin 2) (r : ℕ) : sProp 𝕄 :=
  iprop(cred (tallyAt (sCell c i) () NY) ∗ atPos ER (sCell c i) r ∅ 0)

/-- What the send of step `k` needs besides its buffer: the target's rows, and the tokens of the two payments. -/
def kit (c : Dev nD) (k : ℕ) : sProp 𝕄 :=
  iprop((∃ f, rowsPt (peer c k) c f) ∗ dutyTok ER (rCell (peer c k) c) 0 c ∗ dutyTok ER (sCell c (par k)) ((k - 1) / 2) c)

/-- A send of the block for the device `k` places on fills the device's rows of that one's result. -/
theorem tr_send (k : ℕ) (h1 : 1 ≤ k) (hk : k < 16) : Tr c (send (par k) (peer c k) (rowAt c) (semAt c))
    iprop(facts m K ∗ owesO c (Osend c k) ∗ kit c k ∗ reached ER (sCell c (par k)) ((k - 1) / 2)
      ∗ ∃ f, ⌜(ySlot (par k)).view.read (Elt F) f = blkOf m c (peer c k)⌝ ∗ yPt c (par k) f)
    iprop(owesO c (Osend c (k + 1)) ∗ cred (tallyAt (sCell c (par k)) () NY)) := fun Q => by
  have hr : (k - 1) / 2 < 7 + (par k).val := by show (k - 1) / 2 < 7 + k % 2; omega
  have hne : c ≠ peer c k := (peer_ne c k (by omega) hk).symm
  unfold send kit owesO
  rw [Prog.lift]
  iintro ⟨⟨#HF, ⟨%W, HO⟩, ⟨⟨%fd, Hd⟩, Htr, Hts⟩, #Hrs, ⟨%fs, %hfs, Hs⟩⟩, Hk⟩
  iapply (Rounds.wp_send_pointsTo 𝒱₀ ER (Rd m) (c : Thread nD τ) none (c' := (peer c k : Thread nD τ))
      (κ₁ := K (c, kS (par k))) (κ₂ := K (peer c k, kR c)) (r₁ := (k - 1) / 2) (r₂ := 0) (d₁ := c) (d₂ := c)
      (src := ySlot (par k)) (dst := outRows (rowAt c)) (sS := .dma (sSem (par k))) (sem := .dma (rSem (semAt c)))
      (q := fullShare) (fs := fs) (fd := fd) (O₀ := Osend c k) (W := W)
      (by rw [duties_s m c _ _ hr]; exact Finset.mem_singleton_self _)
      (by rw [duties_r m _ _ hne]; exact Finset.mem_singleton_self _)
      () () NY (amount_rows (rowAt c) _) (price_s m c _ _ c) (price_r m _ _ _ c) (Osend c (k + 1)) (Osend_succ c k hk)
      (by rw [goods_s]; unfold yPt; iintro H; iexists fs; iexact H)
      (by
        rw [goods_r]; unfold rowsPt
        exact Entails.of_eq (pointsTo_congr (write_eq_of_read (outRows (rowAt c)).view fd (outF m (peer c k)) _
          ((read_outF m (peer c k) c).trans hfs.symm))))) $$ [HO Htr Hts Hd Hs]
  · isplitr; · iapply (inv_s m K c (par k)); iexact HF
    isplitr; · iapply (inv_r m K (peer c k) c); iexact HF
    isplitl [Hs]; · unfold yPt; iexact Hs
    isplitl [Hd]; · unfold rowsPt; iexact Hd
    isplitl [HO]; · iexact HO
    isplitl [Hts]; · iexact Hts
    isplitr; · iexact Hrs
    isplitl [Htr]; · iexact Htr
    iapply (reached_r m K (peer c k) c); iexact HF
  iintro ⟨Hc, HO⟩
  rw [wp_ret]; imodintro
  iapply Hk
  isplitl [HO]; · iexists W; iexact HO
  iexact Hc

/-- The wait for the send two steps before step `k` frees its buffer. -/
theorem tr_sendWait (k t : ℕ) (o : RowOff) (h3 : 3 ≤ k) (hk : k ≤ 17) : Tr c (sendWait (par k) o)
    iprop(facts m K ∗ owesO c (Osend c t) ∗ sBusy c (par k) ((k - 3) / 2))
    iprop(owesO c (Osend c t) ∗ sFree c k) := fun Q => by
  have hr : (k - 3) / 2 < 7 + (par k).val := by show (k - 3) / 2 < 7 + k % 2; omega
  unfold sendWait sBusy owesO sFree
  rw [Prog.lift, show (k - 1) / 2 = (k - 3) / 2 + 1 by omega]
  iintro ⟨⟨#HF, ⟨%W, HO⟩, Hc, Hat⟩, Hk⟩
  iapply (Rounds.wp_wait_rest_token 𝒱₀ ER (Rd m) (c : Thread nD τ) none (κ := K (c, kS (par k))) (k' := NY)
      (fun Kt => (wpE_waitDma2_eq 𝒱₀ (c : Thread nD τ) none Set.univ Kt).trans
        (congrArg (fun n => waitSpec _ _ _ n Kt) (credit_y (par k)))) (Set.mem_univ _) () (O := Osend c t) (W := W)
      (R := (k - 3) / 2) (m := 0) (T := ∅) (by rw [expect_s m c _ _ hr, Nat.zero_add])) $$ [Hc HO Hat]
  · isplitr; · iapply (inv_s m K c (par k)); iexact HF
    isplitl [Hc]; · iexact Hc
    isplitl [HO]; · iexact HO
    isplitr
    · iapply (may_low m K c _ (lv_s c (par k)) t); iexact HF
    iexact Hat
  iintro ⟨HO, Hat, Hr, Hp⟩
  rw [wp_ret]; imodintro
  iapply Hk
  isplitl [HO]; · iexists _; iexact HO
  isplitl [Hp]
  · iapply (Entails.of_eq (rest_s m c (par k) ((k - 3) / 2) hr)); iexact Hp
  isplitl [Hat]; · iexact Hat
  iexact Hr

/-- The wait for the block of device `j` gives its rows of the result, filled. -/
theorem tr_recvWait (j : Dev nD) (o : RowOff) (hj : j ≠ c) : Tr c (recvWait (semAt j) o)
    iprop(facts m K ∗ owesO c 0 ∗ cred (tallyAt (rCell c j) () NY) ∗ atPos ER (rCell c j) 0 ∅ 0)
    iprop(owesO c 0 ∗ rowsPt c j (outF m c) ∗ atPos ER (rCell c j) 1 ∅ 0) := fun Q => by
  unfold recvWait owesO
  rw [Prog.lift]
  iintro ⟨⟨#HF, ⟨%W, HO⟩, Hc, Hat⟩, Hk⟩
  iapply (Rounds.wp_wait_rest_token 𝒱₀ ER (Rd m) (c : Thread nD τ) none (κ := K (c, kR j)) (k' := NY)
      (fun Kt => (wpE_waitDma2_eq 𝒱₀ (c : Thread nD τ) none Set.univ Kt).trans
        (congrArg (fun n => waitSpec _ _ _ n Kt) (credit_rows o))) (Set.mem_univ _) () (O := 0) (W := W)
      (R := 0) (m := 0) (T := ∅) (by rw [expect_r m c j hj, Nat.zero_add])) $$ [Hc HO Hat]
  · isplitr; · iapply (inv_r m K c j); iexact HF
    isplitl [Hc]; · iexact Hc
    isplitl [HO]; · iexact HO
    isplitr; · rw [MayWait_zero]; iempintro
    iexact Hat
  iintro ⟨HO, Hat, -, Hp⟩
  rw [wp_ret]; imodintro
  iapply Hk
  isplitl [HO]; · iexists _; iexact HO
  isplitl [Hp]
  · iapply (Entails.of_eq (rest_r m c j hj)); iexact Hp
  iexact Hat

end Cert.Exchange

end
-- ==== Proof.Exchange.Run.lean ====
/-
# The steps of a device in a row: signals, steps and receives

What a device holds between its steps, and that each step leads from what is held before it to what is held after.
-/
module

public import proofs.«01_k».proof.Proof.Exchange.Blocks

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {c : Dev nD} {P P' : sProp (MT nD τ sig Unit (Elt F) ℕ UU ℕ)}
variable (m : (ℓ : Loc nD τ sig) → Buf (Elt F) ℓ) (K : Dev nD × Fin 21 → ℕ)

/-! ## The other devices, counted -/

theorem others_eq (c : Dev nD) : ∃ h : Function.Injective (fun k : Fin 15 => peer c (k.val + 1)),
    Finset.univ.erase c = Finset.univ.map ⟨_, h⟩ := by
  have hc : c.val < 16 := c.isLt
  refine ⟨fun a b hab => ?_, ?_⟩
  · have h := congrArg Fin.val hab
    change (c.val + (a.val + 1)) % 16 = (c.val + (b.val + 1)) % 16 at h
    exact Fin.ext (by omega)
  · ext d
    have hd : d.val < 16 := d.isLt
    simp only [Finset.mem_erase, Finset.mem_univ, and_true, Finset.mem_map, true_and, Function.Embedding.coeFn_mk]
    constructor
    · intro hne
      have hv : d.val ≠ c.val := fun h => hne (Fin.ext h)
      refine ⟨⟨(d.val + 15 - c.val) % 16, by omega⟩, Fin.ext ?_⟩
      show (c.val + ((d.val + 15 - c.val) % 16 + 1)) % 16 = d.val
      omega
    · rintro ⟨k, rfl⟩
      exact peer_ne c (k.val + 1) (by omega) (by omega)

/-- The other devices are those one to fifteen places on, -/
theorem bigSep_others (Φ : Dev nD → sProp 𝕄) :
    bigSep (Finset.univ.erase c) Φ = bigSep Finset.univ fun k : Fin 15 => Φ (peer c (k.val + 1)) := by
  obtain ⟨h, e⟩ := others_eq c
  rw [e, bigSep_map]; rfl
/-- counted from one, -/
theorem bigSep_up (Ψ : ℕ → sProp 𝕄) : bigSep (Finset.Ico 1 16) Ψ = bigSep Finset.univ fun k : Fin 15 => Ψ (k.val + 1) := by
  rw [show Finset.Ico 1 16 = Finset.univ.map ⟨fun k : Fin 15 => k.val + 1, fun a b h => Fin.ext (Nat.succ.inj h)⟩ by decide,
    bigSep_map]; rfl
/-- from zero, -/
theorem bigSep_zero (Ψ : ℕ → sProp 𝕄) : bigSep (Finset.Ico 0 15) Ψ = bigSep Finset.univ fun k : Fin 15 => Ψ k.val := by
  rw [show Finset.Ico 0 15 = Finset.univ.map ⟨fun k : Fin 15 => k.val, fun a b h => Fin.ext h⟩ by decide, bigSep_map]; rfl
/-- or from the last one down. -/
theorem bigSep_down (Ψ : ℕ → sProp 𝕄) :
    bigSep (Finset.Ico 0 15) (fun k => Ψ (15 - k)) = bigSep Finset.univ fun k : Fin 15 => Ψ (k.val + 1) := by
  rw [show Finset.Ico 0 15 = Finset.univ.map ⟨fun k : Fin 15 => 14 - k.val, fun a b h => Fin.ext (by
      have := a.isLt; have := b.isLt; change 14 - a.val = 14 - b.val at h; omega)⟩ by decide, bigSep_map]
  exact bigSep_congr fun k _ => congrArg Ψ (by have := k.isLt; show 15 - (14 - k.val) = _; omega)

theorem bigSep_first {a b : ℕ} (h : a < b) (Ψ : ℕ → sProp 𝕄) :
    bigSep (Finset.Ico a b) Ψ = iprop(Ψ a ∗ bigSep (Finset.Ico (a + 1) b) Ψ) := by
  rw [Ico_first h, bigSep_insert (first_notMem a b)]; rfl
theorem bigSep_last {b : ℕ} (Ψ : ℕ → sProp 𝕄) :
    bigSep (Finset.Ico 0 (b + 1)) Ψ = iprop(Ψ b ∗ bigSep (Finset.Ico 0 b) Ψ) := by
  rw [show Finset.Ico 0 (b + 1) = insert b (Finset.Ico 0 b) by ext x; simp only [Finset.mem_Ico, Finset.mem_insert]; omega,
    bigSep_insert (by simp)]; rfl
theorem bigSep_none {a : ℕ} (Ψ : ℕ → sProp 𝕄) : bigSep (Finset.Ico a a) Ψ = (iprop(emp) : sProp 𝕄) := by
  rw [Finset.Ico_self]; exact bigSep_empty

/-! ## The signals -/

/-- What the signals from `k` on need. -/
def sigKits (c : Dev nD) (k : ℕ) : sProp 𝕄 := bigSep (Finset.Ico k 15) fun k =>
  iprop(dutyTok ER (barCell (peer c (k + 1))) 0 c ∗ ∃ f, rowsPt c (peer c (k + 1)) f)
/-- Before signal `k`. -/
def Sg (c : Dev nD) (k : ℕ) : sProp 𝕄 := iprop(owesO c (Osend c 1 + Osig c k) ∗ sigKits c k)

theorem step_sig (k : ℕ) (hk : k < 15) (R : sProp 𝕄) :
    Tr c (sigAt c k) iprop(facts m K ∗ Sg c k ∗ R) iprop(facts m K ∗ Sg c (k + 1) ∗ R) := fun Q => by
  unfold Sg sigKits
  rw [bigSep_first hk]
  iintro ⟨⟨#HF, ⟨HO, ⟨Ht, Hp⟩, Hs⟩, HR⟩, Hk⟩
  iapply ((tr_sig m K k hk).run Q)
  isplitl [HO Ht Hp]
  · isplitr; · iexact HF
    isplitl [HO]; · iexact HO
    isplitl [Ht]; · iexact Ht
    iexact Hp
  iintro HO
  iapply Hk
  isplitr; · iexact HF
  isplitr [HR]
  · isplitl [HO] <;> iassumption
  iexact HR

/-! ## The steps -/

/-- What the sends from step `k` on need. -/
def kits (c : Dev nD) (k : ℕ) : sProp 𝕄 := bigSep (Finset.Ico k 16) (kit c)
/-- The tokens of the fetches from step `k` on. -/
def fetches (c : Dev nD) (k : ℕ) : sProp 𝕄 := bigSep (Finset.Ico k 16) fun k => dutyTok ER (wCell c (par k)) (k / 2) c
/-- The send buffer of step `k` as the step finds it: free up to step 2, then on its way. -/
def yS (c : Dev nD) (k : ℕ) : sProp 𝕄 := if k ≤ 2 then sFree c k else sBusy c (par k) ((k - 3) / 2)
/-- The device's own rows, filled from step 1 on. -/
def ownRows (c : Dev nD) : ℕ → sProp 𝕄
  | 0 => iprop(∃ f, rowsPt c c f)
  | _ + 1 => rowsPt c c (outF m c)
/-- The sends' part before step `k`, -/
def sending (c : Dev nD) (k : ℕ) : sProp 𝕄 := iprop(owesO c (Osend c k) ∗ kits c k ∗ yS c k ∗ yS c (k + 1))
/-- with the own rows. Step 0 sends nothing. -/
def outgo (c : Dev nD) (s : ℕ) : sProp 𝕄 := iprop(ownRows m c s ∗ sending c (max 1 s))
/-- The fetch for step `s`, started if there is such a step. -/
def ahead (c : Dev nD) (s : ℕ) : sProp 𝕄 := if s < 16 then wBusy c s else wFree m c s
/-- Before step `s`. -/
def St (c : Dev nD) (s : ℕ) : sProp 𝕄 :=
  iprop(xPt m c ∗ outgo m c s ∗ ahead m c s ∗ wFree m c (s + 1) ∗ fetches c (s + 1))

theorem step_prefetch (s : ℕ) (hs : s < 16) :
    Tr c (prefetch (par (s + 1)) (if s < 15 then some (colAt (peer c (s + 1))) else none))
      iprop(facts m K ∗ wFree m c (s + 1) ∗ fetches c (s + 1)) iprop(ahead m c (s + 1) ∗ fetches c (s + 2)) := by
  by_cases h : s < 15
  · rw [if_pos h]
    refine fun Q => ?_
    unfold fetches ahead
    rw [if_pos (by omega), bigSep_first (by omega : s + 1 < 16)]
    iintro ⟨⟨#HF, Hw, Ht, Hts⟩, Hk⟩
    iapply ((tr_wStart m K (s + 1) (by omega)).run Q)
    isplitl [Hw Ht]
    · isplitr; · iexact HF
      isplitl [Hw] <;> iassumption
    iintro Hb
    iapply Hk
    isplitl [Hb] <;> iassumption
  · obtain rfl : s = 15 := by omega
    rw [if_neg h]
    unfold ahead fetches
    rw [if_neg (by omega)]
    refine Tr.of Tr.done ?_ (BI.Entails.refl _)
    rw [show Finset.Ico (15 + 2) 16 = Finset.Ico (15 + 1) 16 from by decide]
    iintro ⟨-, H⟩
    iexact H

/-- A send from the buffer of step `k`, once free. -/
theorem step_push (k : ℕ) (h1 : 1 ≤ k) (hk : k < 16) :
    Tr c (stash (par k) (blkOf m c (peer c k)) >>= fun _ => send (par k) (peer c k) (rowAt c) (semAt c))
      iprop(facts m K ∗ owesO c (Osend c k) ∗ kits c k ∗ sFree c k)
      iprop(owesO c (Osend c (k + 1)) ∗ kits c (k + 1) ∗ yS c (k + 2)) := fun Q => by
  unfold kits sFree
  rw [wp_bind, bigSep_first hk]
  have hy : yS (F := F) c (k + 2) = sBusy c (par k) ((k - 1) / 2) := by
    unfold yS
    rw [if_neg (by omega), show k + 2 - 3 = k - 1 by omega]
    congr 1
    exact Fin.ext (by show (k + 2) % 2 = k % 2; omega)
  rw [hy]; unfold sBusy
  iintro ⟨⟨#HF, HO, ⟨Hkit, Hkits⟩, Hy, Hat, #Hr⟩, Hk⟩
  iapply ((tr_stash (par k) (blkOf m c (peer c k))).run _)
  isplitl [Hy]; · iexact Hy
  iintro Hy
  iapply ((tr_send m K k h1 hk).run Q)
  isplitl [HO Hkit Hy]
  · isplitr; · iexact HF
    isplitl [HO]; · iexact HO
    isplitl [Hkit]; · iexact Hkit
    isplitr; · iexact Hr
    iexact Hy
  iintro ⟨HO, Hc⟩
  iapply Hk
  isplitl [HO]; · iexact HO
  isplitl [Hkits]; · iexact Hkits
  isplitl [Hc] <;> iassumption

/-- From step 1 on, what a step does with its block. -/
theorem step_sent (k : ℕ) (h1 : 1 ≤ k) (hk : k < 16) :
    Tr c (dispatch k (peer c k) (rowAt c) (rowAt c) (semAt c) (blkOf m c (peer c k)))
      iprop(facts m K ∗ sending c k) (sending c (k + 1)) := by
  have early (h : k ≤ 2) : Tr c (stash (par k) (blkOf m c (peer c k)) >>= fun _ => send (par k) (peer c k) (rowAt c) (semAt c))
      iprop(facts m K ∗ sending c k) (sending c (k + 1)) := by
    refine Tr.of ((step_push m K k h1 hk).keep (yS c (k + 1))) ?_ ?_
    · unfold sending
      rw [show yS (F := F) c k = sFree c k from if_pos h]
      iintro ⟨HF, HO, Hk, Hy, Hy'⟩
      isplitr [Hy']
      · isplitl [HF]; · iexact HF
        isplitl [HO]; · iexact HO
        isplitl [Hk] <;> iassumption
      iexact Hy'
    · unfold sending
      iintro ⟨⟨HO, Hk, Hy⟩, Hy'⟩
      isplitl [HO]; · iexact HO
      isplitl [Hk]; · iexact Hk
      isplitl [Hy'] <;> iassumption
  match k, h1, hk, early with
  | 1, _, _, early => exact early (by decide)
  | 2, _, _, early => exact early (by decide)
  | k + 3, h1, hk, _ =>
    refine fun Q => ?_
    show _ ⊢ wp frame _ Set.univ (sendWait (par (k + 3)) (rowAt c) >>= fun _ => _) Q
    rw [wp_bind]
    unfold sending
    rw [show yS (F := F) c (k + 3) = sBusy c (par (k + 3)) ((k + 3 - 3) / 2) from if_neg (by omega)]
    iintro ⟨⟨#HF, HO, Hkits, Hy, Hy'⟩, Hk⟩
    iapply ((tr_sendWait m K (k + 3) (k + 3) (rowAt c) (by omega) (by omega)).run _)
    isplitl [HO Hy]
    · isplitr; · iexact HF
      isplitl [HO] <;> iassumption
    iintro ⟨HO, Hy⟩
    iapply ((step_push m K (k + 3) (by omega) hk).run Q)
    isplitl [HO Hkits Hy]
    · isplitr; · iexact HF
      isplitl [HO]; · iexact HO
      isplitl [Hkits] <;> iassumption
    iintro ⟨HO, Hkits, Hy⟩
    iapply Hk
    isplitl [HO]; · iexact HO
    isplitl [Hkits]; · iexact Hkits
    isplitl [Hy'] <;> iassumption

/-- What any step does with its block. -/
theorem step_dispatch (s : ℕ) (hs : s < 16) :
    Tr c (dispatch s (peer c s) (rowAt c) (rowAt c) (semAt c) (blkOf m c (peer c s)))
      iprop(facts m K ∗ outgo m c s) (outgo m c (s + 1)) := by
  match s, hs with
  | 0, _ =>
    rw [peer_zero]
    refine Tr.of ((tr_keep m).keep (sending c 1)) ?_ (BI.Entails.refl _)
    unfold outgo ownRows
    iintro ⟨-, H, Hs⟩
    isplitl [H]; · iexact H
    iexact Hs
  | s + 1, hs =>
    refine Tr.of ((step_sent m K (s + 1) (by omega) hs).keep (rowsPt c c (outF m c))) ?_ ?_
    · unfold outgo ownRows
      rw [show max 1 (s + 1) = s + 1 by omega]
      iintro ⟨HF, H, Hs⟩
      isplitr [H]
      · isplitl [HF] <;> iassumption
      iexact H
    · unfold outgo ownRows
      rw [show max 1 (s + 1 + 1) = s + 1 + 1 by omega]
      iintro ⟨Hs, H⟩
      isplitl [H] <;> iassumption

/-- Step `s` leads from what is held before it to what is held before the next. -/
theorem step_step (s : ℕ) (hs : s < 16) (R : sProp 𝕄) :
    Tr c (stepAt c s) iprop(facts m K ∗ St m c s ∗ R) iprop(facts m K ∗ St m c (s + 1) ∗ R) := fun Q => by
  unfold stepAt step St
  rw [wp_bind]
  rw [show ahead m c s = wBusy c s from if_pos hs]
  have hp : par (s + 2) = par s := Fin.ext (by show (s + 2) % 2 = s % 2; omega)
  have hw : wFree m c (s + 1 + 1) = iprop((∃ f, wPt c (par s) f) ∗ wHalf m c (par s)
      ∗ atPos ER (wCell c (par s)) (s / 2 + 1) ∅ 0 ∗ reached ER (wCell c (par s)) (s / 2 + 1)) := by
    unfold wFree
    rw [show s + 1 + 1 = s + 2 from rfl, hp, show (s + 2) / 2 = s / 2 + 1 by omega]
  rw [hw]
  iintro ⟨⟨#HF, ⟨Hx, Hout, Hb, Hw, Hts⟩, HR⟩, Hk⟩
  iapply ((step_prefetch m K s hs).run _)
  isplitl [Hw Hts]
  · isplitr; · iexact HF
    isplitl [Hw] <;> iassumption
  iintro ⟨Hah, Hts⟩
  rw [wp_bind]
  unfold outgo sending
  icases Hout with ⟨Hown, HO, Hkits, Hy, Hy'⟩
  iapply ((tr_wWait m K s (max 1 s) hs).run _)
  isplitl [HO Hb]
  · isplitr; · iexact HF
    isplitl [HO] <;> iassumption
  iintro ⟨HO, Hgot, Hat, Hr⟩
  iapply ((tr_compute m (par s) (peer c s) _ (step_dispatch m K s hs)).run Q)
  isplitl [Hx Hgot Hown HO Hkits Hy Hy']
  · isplitl [Hx]; · iexact Hx
    isplitl [Hgot]; · iexact Hgot
    isplitr; · iexact HF
    unfold outgo sending
    isplitl [Hown]; · iexact Hown
    isplitl [HO]; · iexact HO
    isplitl [Hkits]; · iexact Hkits
    isplitl [Hy] <;> iassumption
  iintro ⟨Hx, Hw, Hh, Hout⟩
  iapply Hk
  isplitr; · iexact HF
  isplitr [HR]
  · isplitl [Hx]; · iexact Hx
    isplitl [Hout]; · unfold outgo sending; iexact Hout
    isplitl [Hah]; · iexact Hah
    isplitr [Hts]
    · isplitl [Hw]; · iexact Hw
      isplitl [Hh]; · iexact Hh
      isplitl [Hat] <;> iassumption
    iexact Hts
  iexact HR

/-! ## The receives -/

/-- What the wait for device `j`'s block needs, -/
def due (c j : Dev nD) : sProp 𝕄 := iprop(cred (tallyAt (rCell c j) () NY) ∗ atPos ER (rCell c j) 0 ∅ 0)
/-- and what it gives. -/
def got (c j : Dev nD) : sProp 𝕄 := iprop(rowsPt c j (outF m c) ∗ atPos ER (rCell c j) 1 ∅ 0)
/-- Before receive `k`. -/
def Rv (c : Dev nD) (k : ℕ) : sProp 𝕄 :=
  iprop(owesO c 0 ∗ (bigSep (Finset.Ico k 15) fun k => due c (peer c (15 - k)))
    ∗ bigSep (Finset.Ico 0 k) fun k => got m c (peer c (15 - k)))

theorem step_recv (k : ℕ) (hk : k < 15) (R : sProp 𝕄) :
    Tr c (recvAt c k) iprop(facts m K ∗ Rv m c k ∗ R) iprop(facts m K ∗ Rv m c (k + 1) ∗ R) := fun Q => by
  unfold Rv
  rw [bigSep_first hk, bigSep_last]
  unfold due got recvAt
  iintro ⟨⟨#HF, ⟨HO, ⟨Hd, Hds⟩, Hgs⟩, HR⟩, Hk⟩
  iapply ((tr_recvWait m K (peer c (15 - k)) (rowAt (peer c (15 - k))) (peer_ne c (15 - k) (by omega) (by omega))).run Q)
  isplitl [HO Hd]
  · isplitr; · iexact HF
    isplitl [HO] <;> iassumption
  iintro ⟨HO, Hg⟩
  iapply Hk
  isplitr; · iexact HF
  isplitr [HR]
  · isplitl [HO]; · iexact HO
    isplitl [Hds]; · iexact Hds
    isplitl [Hg] <;> iassumption
  iexact HR

end Cert.Exchange

end
-- ==== Proof.Exchange.Body.lean ====
/-
# The body of a device, from its entry to its exit

How the buffers split into the pieces the steps take and join again, and the run of all the steps: device `c`, holding
its buffers, its places in the rounds, its tokens and its credits, runs its body, and ends with its result filled, its
weights as they were and all its semaphores at zero.
-/
module

public import proofs.«01_k».proof.Proof.Exchange.Run

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {c : Dev nD} {P P' : sProp (MT nD τ sig Unit (Elt F) ℕ UU ℕ)}
variable (m : (ℓ : Loc nD τ sig) → Buf (Elt F) ℓ) (K : Dev nD × Fin 21 → ℕ)

/-! ## The buffers in pieces -/

/-- A buffer of device `c`, whole, at some contents. -/
def someBuf (c : Dev nD) (b : Ref sig .tc) : sProp 𝕄 := iprop(∃ f, ((c : Thread nD τ).loc b) ↦{fullShare} f)

theorem bigSep_two (Φ : Fin 2 → sProp 𝕄) : bigSep Finset.univ Φ = iprop(Φ 0 ∗ Φ 1) :=
  bigSep_univ_eq_bigSepL [0, 1] (by decide) (by decide) Φ
theorem bigSep_own (c : Dev nD) (Φ : Dev nD → sProp 𝕄) :
    bigSep Finset.univ Φ = iprop(Φ c ∗ bigSep (Finset.univ.erase c) Φ) := bigSep_univ_split c

theorem rows_eq (f : (cc0_stg1_0 : Ref sig .tc).ty.Contents (Elt F)) :
    (((c : Thread nD τ).loc cc0_stg1_0) ↦{fullShare} f : sProp 𝕄) = bigSep Finset.univ fun j => rowsPt c j f := by
  unfold rowsPt
  exact Ring.pointsTo_blocks (ℓ := (c : Thread nD τ).loc cc0_stg1_0) rowsSet rows_disjoint rows_cover f

theorem rows_some (d j : Dev nD) (f) : rowsPt (F := F) d j f ⊢ iprop(∃ f, rowsPt d j f) := by
  iintro H; iexists f; iexact H

theorem out_split : someBuf c cc0_stg1_0 ⊢ (iprop((∃ f, rowsPt c c f)
    ∗ bigSep (Finset.Ico 0 15) fun k => iprop(∃ f, rowsPt c (peer c (k + 1)) f)) : sProp 𝕄) := by
  have h (f) : bigSep (Finset.univ.erase c) (fun j => rowsPt (F := F) c j f)
      ⊢ bigSep (Finset.Ico 0 15) fun k => iprop(∃ f, rowsPt c (peer c (k + 1)) f) := by
    rw [bigSep_others, ← bigSep_zero fun k => rowsPt c (peer c (k + 1)) f]
    exact bigSep_mono fun k _ => rows_some c (peer c (k + 1)) f
  unfold someBuf
  iintro ⟨%f, H⟩
  ihave H' := (Entails.of_eq ((rows_eq f).trans (bigSep_own c _))) $$ H
  icases H' with ⟨Hown, Hoth⟩
  isplitl [Hown]
  · iexists f; iexact Hown
  iapply (h f); iexact Hoth

theorem w_split : someBuf c cc0_scratch0 ⊢ (iprop((∃ f, wPt c 0 f) ∗ ∃ f, wPt c 1 f) : sProp 𝕄) := by
  unfold someBuf wPt
  iintro ⟨%f, H⟩
  ihave H' := (Entails.of_eq ((Ring.pointsTo_blocks (ℓ := (c : Thread nD τ).loc cc0_scratch0) wSet wslot_disjoint wslot_cover f).trans
    (bigSep_two _))) $$ H
  icases H' with ⟨H0, H1⟩
  isplitl [H0]
  · iexists f; iexact H0
  iexists f; iexact H1

theorem w_join : (iprop((∃ f, wPt c 0 f) ∗ ∃ f, wPt c 1 f) : sProp 𝕄) ⊢ someBuf c cc0_scratch0 := by
  unfold someBuf wPt
  iintro ⟨⟨%f, H0⟩, H1⟩
  iapply (Ring.pointsTo_blocks_join_exists (ℓ := (c : Thread nD τ).loc cc0_scratch0) wSet wslot_disjoint wslot_cover f)
  rw [bigSep_two]
  isplitl [H0]
  · iexists f; iexact H0
  iexact H1

theorem y_split : someBuf c cc0_scratch1 ⊢ (iprop((∃ f, yPt c 0 f) ∗ ∃ f, yPt c 1 f) : sProp 𝕄) := by
  unfold someBuf yPt
  iintro ⟨%f, H⟩
  ihave H' := (Entails.of_eq ((Ring.pointsTo_blocks (ℓ := (c : Thread nD τ).loc cc0_scratch1) ySet yslot_disjoint yslot_cover f).trans
    (bigSep_two _))) $$ H
  icases H' with ⟨H0, H1⟩
  isplitl [H0]
  · iexists f; iexact H0
  iexists f; iexact H1

theorem y_join : (iprop((∃ f, yPt c 0 f) ∗ ∃ f, yPt c 1 f) : sProp 𝕄) ⊢ someBuf c cc0_scratch1 := by
  unfold someBuf yPt
  iintro ⟨⟨%f, H0⟩, H1⟩
  iapply (Ring.pointsTo_blocks_join_exists (ℓ := (c : Thread nD τ).loc cc0_scratch1) ySet yslot_disjoint yslot_cover f)
  rw [bigSep_two]
  isplitl [H0]
  · iexists f; iexact H0
  iexact H1

/-- Device `c`'s weights, whole. -/
def wHeld (c : Dev nD) : sProp 𝕄 := ((c : Thread nD τ).loc main_arg1) ↦{fullShare} wAll m c

theorem weights_halves : wHeld m c ⊣⊢ (iprop(wHalf m c 0 ∗ wHalf m c 1) : sProp 𝕄) :=
  pointsTo_share (PosShare.mem_left_op_right fullShare)

/-! ## The cells one by one -/

theorem cells_eq (Φ : GSem nD τ sig → sProp 𝕄) : (bigSep Finset.univ fun k : Fin 21 => Φ (kcell (c, k)))
    = iprop(Φ (barCell c) ∗ Φ (wCell c 0) ∗ Φ (wCell c 1) ∗ Φ (sCell c 0) ∗ Φ (sCell c 1) ∗ bigSep Finset.univ fun j => Φ (rCell c j)) := by
  rw [bigSep_univ_eq_bigSepL [kBar, kW 0, kW 1, kS 0, kS 1, kR 0, kR 1, kR 2, kR 3, kR 4, kR 5, kR 6, kR 7, kR 8, kR 9,
      kR 10, kR 11, kR 12, kR 13, kR 14, kR 15] (by decide) (by decide),
    bigSep_univ_eq_bigSepL [(0 : Dev nD), 1, 2, 3, 4, 5, 6, 7, 8, 9, 10, 11, 12, 13, 14, 15] (by decide) (by decide)]
  simp only [bigSepL_cons_cons, bigSepL_singleton, kcell, csem_w, csem_s, csem_r]
  rfl

theorem Tr.seq2 {e e' e'' : Step F} {P P' P'' : sProp (MT nD τ sig Unit (Elt F) ℕ UU ℕ)} (h : Tr c (e >>= fun _ => e') P P')
    (h' : Tr c e'' P' P'') : Tr c (e >>= fun _ => e' >>= fun _ => e'') P P'' := fun Q => by
  have := Tr.seq h h' Q
  rw [wp_bind, wp_bind] at this
  rw [wp_bind]
  simp only [wp_bind]
  exact this

/-! ## What a device starts from -/

/-- Device `c`'s places, at round 0 of all its cells. -/
def places (c : Dev nD) : sProp 𝕄 := bigSep Finset.univ fun k : Fin 21 => atPos ER (kcell (c, k)) 0 ∅ 0
/-- The tokens it pays with: those of its signals, of what it sends, of its fetches, and of its send buffers. -/
def purse (c : Dev nD) : sProp 𝕄 :=
  iprop((bigSep (Finset.Ico 0 15) fun k => dutyTok ER (barCell (peer c (k + 1))) 0 c)
    ∗ (bigSep (Finset.Ico 1 16) fun k => dutyTok ER (rCell (peer c k) c) 0 c)
    ∗ fetches c 0
    ∗ bigSep (Finset.Ico 1 16) fun k => dutyTok ER (sCell c (par k)) ((k - 1) / 2) c)
/-- The credits of what the others pay it. -/
def credits (c : Dev nD) : sProp 𝕄 :=
  iprop(cred (tallyAt (barCell c) () 15) ∗ bigSep (Finset.univ.erase c) fun j => cred (tallyAt (rCell c j) () NY))
/-- The counters of its cells, at zero. -/
def zeros (c : Dev nD) : sProp 𝕄 := bigSep Finset.univ fun k : Fin 21 => semVal (kcell (c, k)) 0

theorem places_eq : places (F := F) c = iprop(atPos ER (barCell c) 0 ∅ 0 ∗ atPos ER (wCell c 0) 0 ∅ 0 ∗ atPos ER (wCell c 1) 0 ∅ 0
    ∗ atPos ER (sCell c 0) 0 ∅ 0 ∗ atPos ER (sCell c 1) 0 ∅ 0 ∗ bigSep Finset.univ fun j => atPos ER (rCell c j) 0 ∅ 0) :=
  cells_eq fun g => atPos ER g 0 ∅ 0
theorem zeros_eq : zeros (F := F) c = iprop(semVal (barCell c) 0 ∗ semVal (wCell c 0) 0 ∗ semVal (wCell c 1) 0
    ∗ semVal (sCell c 0) 0 ∗ semVal (sCell c 1) 0 ∗ bigSep Finset.univ fun j => semVal (rCell c j) 0) :=
  cells_eq fun g => semVal g 0

/-- What the body of device `c` starts from, -/
def Start (c : Dev nD) : sProp 𝕄 :=
  iprop(facts m K ∗ owesO c (O₀ c) ∗ (xPt m c ∗ someBuf c cc0_stg1_0 ∗ someBuf c cc0_scratch0 ∗ someBuf c cc0_scratch1 ∗ wHeld m c)
    ∗ places c ∗ purse c ∗ credits c)
/-- and what it ends with. -/
def Finish (c : Dev nD) : sProp 𝕄 :=
  iprop(owesO c 0 ∗ (xPt m c ∗ (((c : Thread nD τ).loc cc0_stg1_0) ↦{fullShare} outF m c) ∗ someBuf c cc0_scratch0
    ∗ someBuf c cc0_scratch1 ∗ wHeld m c) ∗ zeros c)

/-- What the receives need. -/
def dues (c : Dev nD) : sProp 𝕄 := bigSep (Finset.univ.erase c) (due c)
/-- The tokens of the sends. -/
def sendToks (c : Dev nD) : sProp 𝕄 := bigSep (Finset.Ico 1 16) fun k =>
  iprop(dutyTok ER (rCell (peer c k) c) 0 c ∗ dutyTok ER (sCell c (par k)) ((k - 1) / 2) c)
/-- What the signals leave alone. -/
def rest1 (c : Dev nD) : sProp 𝕄 :=
  iprop((cred (tallyAt (barCell c) () 15) ∗ atPos ER (barCell c) 0 ∅ 0) ∗ (xPt m c ∗ ∃ f, rowsPt c c f) ∗ sendToks c
    ∗ (wFree m c 0 ∗ wFree m c 1 ∗ fetches c 0) ∗ (yS c 1 ∗ yS c 2) ∗ dues c ∗ atPos ER (rCell c c) 0 ∅ 0)
/-- What the steps leave alone. -/
def rest2 (c : Dev nD) : sProp 𝕄 := iprop(atPos ER (barCell c) 1 ∅ 0 ∗ dues c ∗ atPos ER (rCell c c) 0 ∅ 0)
/-- What the receives leave alone. -/
def rest3 (c : Dev nD) : sProp 𝕄 :=
  iprop((xPt m c ∗ rowsPt c c (outF m c)) ∗ (wFree m c 16 ∗ wFree m c 17) ∗ (sFree c 16 ∗ sFree c 17)
    ∗ atPos ER (barCell c) 1 ∅ 0 ∗ atPos ER (rCell c c) 0 ∅ 0)

theorem start_split : Start m K c ⊢ iprop(facts m K ∗ Sg c 0 ∗ rest1 m c) := by
  unfold Start Sg rest1 O₀ purse credits dues due sendToks sigKits
  rw [places_eq, bigSep_own c (fun j => atPos ER (rCell c j) 0 ∅ 0), bigSep_sep', bigSep_sep', bigSep_sep']
  iintro ⟨#HF, HO, ⟨Hx, Ho, Hw, Hy, Hm⟩, ⟨Pb, Pw0, Pw1, Ps0, Ps1, Pc, Pr⟩, ⟨Tb, Tr, Tw, Ts⟩, Cb, Cr⟩
  ihave Ho := out_split $$ Ho
  icases Ho with ⟨Hown, Hoth⟩
  ihave Hw := w_split $$ Hw
  icases Hw with ⟨Hw0, Hw1⟩
  ihave Hy := y_split $$ Hy
  icases Hy with ⟨Hy0, Hy1⟩
  ihave Hm := (weights_halves m).1 $$ Hm
  icases Hm with ⟨Hm0, Hm1⟩
  isplitr; · iexact HF
  isplitl [HO Tb Hoth]
  · isplitl [HO]; · iexact HO
    isplitl [Tb]; · iexact Tb
    iexact Hoth
  isplitl [Cb Pb]
  · isplitl [Cb] <;> iassumption
  isplitl [Hx Hown]
  · isplitl [Hx] <;> iassumption
  isplitl [Tr Ts]
  · isplitl [Tr] <;> iassumption
  isplitl [Hw0 Hw1 Hm0 Hm1 Pw0 Pw1 Tw]
  · isplitl [Hw0 Hm0 Pw0]
    · unfold wFree
      isplitl [Hw0]; · iexact Hw0
      isplitl [Hm0]; · iexact Hm0
      isplitl [Pw0]; · iexact Pw0
      iapply (reached_w m K c 0); iexact HF
    isplitl [Hw1 Hm1 Pw1]
    · unfold wFree
      isplitl [Hw1]; · iexact Hw1
      isplitl [Hm1]; · iexact Hm1
      isplitl [Pw1]; · iexact Pw1
      iapply (reached_w m K c 1); iexact HF
    iexact Tw
  isplitl [Hy0 Hy1 Ps0 Ps1]
  · unfold yS
    rw [if_pos (by decide), if_pos (by decide)]
    unfold sFree
    isplitl [Hy1 Ps1]
    · isplitl [Hy1]; · iexact Hy1
      isplitl [Ps1]; · iexact Ps1
      iapply (reached_s m K c 1); iexact HF
    isplitl [Hy0]; · iexact Hy0
    isplitl [Ps0]; · iexact Ps0
    iapply (reached_s m K c 0); iexact HF
  isplitl [Cr Pr]
  · isplitl [Cr] <;> iassumption
  iexact Pc

/-- The other devices' rows, with the tokens, are what the sends need. -/
theorem kits_intro : iprop((bigSep (Finset.univ.erase c) fun d => iprop(∃ f, rowsPt d c f)) ∗ sendToks c)
    ⊢ (kits c 1 : sProp 𝕄) := by
  unfold kits kit sendToks
  rw [bigSep_others, bigSep_sep' (Finset.Ico 1 16) (fun k => iprop(∃ f, rowsPt (F := F) (peer c k) c f)),
    bigSep_up fun k => iprop(∃ f, rowsPt (F := F) (peer c k) c f)]

/-- After the barrier wait, and with the first fetch started, the steps can begin. -/
theorem enter : Tr c (barWait >>= fun _ => wStart (colAt (peer c 0)) 0)
    iprop(facts m K ∗ Sg c 15 ∗ rest1 m c) iprop(facts m K ∗ St m c 0 ∗ rest2 c) := fun Q => by
  rw [wp_bind]
  unfold Sg rest1 St rest2 outgo sending ownRows fetches
  rw [bigSep_first (by decide : 0 < 16), Osig_end, add_zero, show ahead m c 0 = wBusy c 0 from if_pos (by decide), show max 1 0 = 1 from rfl]
  iintro ⟨⟨#HF, ⟨HO, -⟩, ⟨Cb, Pb⟩, ⟨Hx, Hown⟩, Ht, ⟨Hw0, Hw1, T0, Tw⟩, ⟨Hy1, Hy2⟩, Hd, Pc⟩, Hk⟩
  iapply ((tr_bar m K).run _)
  isplitl [HO Cb Pb]
  · isplitr; · iexact HF
    isplitl [HO]; · iexact HO
    isplitl [Cb] <;> iassumption
  iintro ⟨HO, Pb, Hrows⟩
  iapply ((tr_wStart m K 0 (by decide)).run Q)
  isplitl [Hw0 T0]
  · isplitr; · iexact HF
    isplitl [Hw0] <;> iassumption
  iintro Hb
  iapply Hk
  isplitr; · iexact HF
  isplitr [Pb Hd Pc]
  · isplitl [Hx]; · iexact Hx
    isplitr [Hb Hw1 Tw]
    · isplitl [Hown]; · iexact Hown
      isplitl [HO]; · iexact HO
      isplitr [Hy1 Hy2]
      · iapply kits_intro
        isplitl [Hrows] <;> iassumption
      isplitl [Hy1] <;> iassumption
    isplitl [Hb]; · iexact Hb
    isplitl [Hw1] <;> iassumption
  isplitl [Pb]; · iexact Pb
  isplitl [Hd] <;> iassumption

/-- After the steps, the last two sends are waited for, and the receives can begin. -/
theorem drain : Tr c (sendWait 0 (rowAt c) >>= fun _ => sendWait 1 (rowAt c))
    iprop(facts m K ∗ St m c 16 ∗ rest2 c) iprop(facts m K ∗ Rv m c 0 ∗ rest3 m c) := fun Q => by
  rw [wp_bind]
  unfold St outgo sending rest2 rest3 ownRows Rv
  rw [show ahead m c 16 = wFree m c 16 from if_neg (by decide), show max 1 16 = 16 from rfl, bigSep_none,
    show yS (F := F) c 16 = sBusy c (par 16) ((16 - 3) / 2) from if_neg (by decide),
    show yS (F := F) c (16 + 1) = sBusy c (par 17) ((17 - 3) / 2) from if_neg (by decide), ← Osend_end c]
  iintro ⟨⟨#HF, ⟨Hx, ⟨Hown, HO, -, Hy0, Hy1⟩, Hw0, Hw1, -⟩, Pb, Hd, Pc⟩, Hk⟩
  iapply ((tr_sendWait m K 16 16 (rowAt c) (by decide) (by decide)).run _)
  isplitl [HO Hy0]
  · isplitr; · iexact HF
    isplitl [HO] <;> iassumption
  iintro ⟨HO, Hy0⟩
  iapply ((tr_sendWait m K 17 16 (rowAt c) (by decide) (by decide)).run _)
  isplitl [HO Hy1]
  · isplitr; · iexact HF
    isplitl [HO] <;> iassumption
  iintro ⟨HO, Hy1⟩
  iapply Hk
  isplitr; · iexact HF
  isplitl [HO Hd]
  · isplitl [HO]; · iexact HO
    isplitl [Hd]
    · unfold dues
      iapply (Entails.of_eq ((bigSep_others (c := c) (due c)).trans (bigSep_down fun k => due c (peer c k)).symm))
      iexact Hd
    iempintro
  isplitl [Hx Hown]
  · isplitl [Hx] <;> iassumption
  isplitl [Hw0 Hw1]
  · isplitl [Hw0] <;> iassumption
  isplitl [Hy0 Hy1]
  · isplitl [Hy0] <;> iassumption
  isplitl [Pb] <;> iassumption

/-- A cell with no later round closes: its counter is zero, and the device's again. -/
theorem close (g : GSem nD τ sig) (κ R : ℕ) (h : ∀ r, R ≤ r → (Rd (F := F) m).duties g r = ∅) :
    iprop(cellInv ER (Rd m) κ g ∗ atPos ER g R ∅ 0) ⊢ (|={Set.univ}=> semVal g 0 : sProp 𝕄) :=
  Rounds.cell_close ER (Rd m) (Set.mem_univ κ) (fun h => h) h

/-- A receive cell closes after its one round, -/
theorem close_received_one (j : Dev nD) : iprop(facts m K ∗ atPos ER (rCell c j) 1 ∅ 0)
    ⊢ (|={Set.univ}=> semVal (rCell c j) 0 : sProp 𝕄) := by
  iintro ⟨#HF, H⟩
  iapply (close m (rCell c j) (K (c, kR j)) 1 (later_r m c j))
  isplitr; · iapply (inv_r m K c j); iexact HF
  iexact H
/-- and all of them do together. -/
theorem close_received : iprop(facts m K ∗ bigSep (Finset.univ.erase c) fun j => atPos ER (rCell c j) 1 ∅ 0)
    ⊢ (|={Set.univ}=> bigSep (Finset.univ.erase c) fun j => semVal (rCell c j) 0 : sProp 𝕄) := by
  refine (sep_mono_left (BI.bigSep_of_persistent (Finset.univ.erase c) (facts m K))).trans ?_
  rw [← bigSep_sep']
  exact (bigSep_mono fun j _ => close_received_one m K j).trans (bigSep_fupd _ _)

/-- At the end all cells close and the pieces join. -/
theorem finish : iprop(facts m K ∗ Rv m c 15 ∗ rest3 m c) ⊢ (|={Set.univ}=> Finish m c : sProp 𝕄) := by
  unfold Rv rest3 Finish wFree sFree
  rw [bigSep_none, bigSep_down (fun k => got m c (peer c k)), ← bigSep_others (c := c) (got m c), zeros_eq]
  unfold got
  rw [bigSep_sep']
  iintro ⟨#HF, ⟨HO, -, Hrows, Pr⟩, ⟨Hx, Hown⟩, ⟨⟨Hw0, Hm0, Pw0, -⟩, Hw1, Hm1, Pw1, -⟩, ⟨⟨Hy0, Ps0, -⟩, Hy1, Ps1, -⟩, Pb, Pc⟩
  imod (close m (barCell c) (K (c, kBar)) 1 (later_bar m c)) $$ [Pb] with Zb
  · isplitr; · iapply (inv_bar m K c); iexact HF
    iexact Pb
  imod (close m (wCell c 0) (K (c, kW 0)) 8 (later_w m c 0)) $$ [Pw0] with Zw0
  · isplitr; · iapply (inv_w m K c 0); iexact HF
    iexact Pw0
  imod (close m (wCell c 1) (K (c, kW 1)) 8 (later_w m c 1)) $$ [Pw1] with Zw1
  · isplitr; · iapply (inv_w m K c 1); iexact HF
    iexact Pw1
  imod (close m (sCell c 0) (K (c, kS 0)) 7 (later_s m c 0)) $$ [Ps0] with Zs0
  · isplitr; · iapply (inv_s m K c 0); iexact HF
    iexact Ps0
  imod (close m (sCell c 1) (K (c, kS 1)) 8 (later_s m c 1)) $$ [Ps1] with Zs1
  · isplitr; · iapply (inv_s m K c 1); iexact HF
    iexact Ps1
  imod (close m (rCell c c) (K (c, kR c)) 0 (never_r m c)) $$ [Pc] with Zc
  · isplitr; · iapply (inv_r m K c c); iexact HF
    iexact Pc
  imod (close_received m K) $$ [Pr] with Zr
  · isplitr; · iexact HF
    iexact Pr
  imodintro
  isplitl [HO]; · iexact HO
  isplitr [Zb Zw0 Zw1 Zs0 Zs1 Zc Zr]
  · isplitl [Hx]; · iexact Hx
    isplitl [Hrows Hown]
    · rw [rows_eq, bigSep_own c]
      isplitl [Hown] <;> iassumption
    isplitl [Hw0 Hw1]
    · iapply w_join
      isplitl [Hw0]; · iexact Hw0
      iexact Hw1
    isplitl [Hy0 Hy1]
    · iapply y_join
      isplitl [Hy0]; · iexact Hy0
      iexact Hy1
    iapply (weights_halves m).2
    isplitl [Hm0]; · iexact Hm0
    iexact Hm1
  isplitl [Zb]; · iexact Zb
  isplitl [Zw0]; · iexact Zw0
  isplitl [Zw1]; · iexact Zw1
  isplitl [Zs0]; · iexact Zs0
  isplitl [Zs1]; · iexact Zs1
  rw [bigSep_own c]
  isplitl [Zc] <;> iassumption

/-- The last step leaves what an update makes of what is held. -/
theorem Tr.last (h : P ⊢ |={Set.univ}=> P') : Tr c (pure ⟨⟩ : Step F) P P' := fun Q => by
  rw [Prog.pure_eq_ret, wp_ret]
  iintro ⟨HP, Hk⟩
  imod h $$ HP with HP'
  imodintro
  iapply Hk; iexact HP'

/-- The steps of device `c` lead from its start to its finish. -/
theorem steps_run : Tr c (Pipeline.chain (steps c)) (Start m K c) (Finish m c) := by
  refine Tr.of (P := iprop(facts m K ∗ Sg c 0 ∗ rest1 m c)) ?_ (start_split m K) (BI.Entails.refl _)
  unfold steps
  refine Tr.range (sigAt c) (fun k => iprop(facts m K ∗ Sg c k ∗ rest1 m c)) _ 15 0
    (fun k _ hk => step_sig m K k (by omega) (rest1 m c)) ?_
  rw [Pipeline.chain_cons, Pipeline.chain_cons]
  refine Tr.seq2 (enter m K) ?_
  refine Tr.range (stepAt c) (fun s => iprop(facts m K ∗ St m c s ∗ rest2 c)) _ 16 0
    (fun s _ hs => step_step m K s (by omega) (rest2 c)) ?_
  rw [Pipeline.chain_cons, Pipeline.chain_cons]
  refine Tr.seq2 (drain m K) ?_
  have := Tr.range (c := c) (P' := Finish m c) (recvAt c) (fun k => iprop(facts m K ∗ Rv m c k ∗ rest3 m c)) [] 15 0
    (fun k _ hk => step_recv m K k (by omega) (rest3 m c)) (Tr.last (finish m K))
  rw [List.append_nil] at this
  exact this

end Cert.Exchange

end
-- ==== Proof.Exchange.Mint.lean ====
/-
# The resources of the exchange, dealt before the launch

The cells of the exchange on all devices and the tokens of all their payments are made at once. A token is dealt to the
device that pays with it. Every cell's counter then goes into its invariant.
-/
module

public import proofs.«01_k».proof.Proof.Exchange.Body
public import proofs.«01_k».proof.Proof.Gen.KernelIdeal.Launch

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells -/

theorem csem_injective : ∀ k k' : Fin 21, csem k = csem k' → k = k' := by decide

theorem kcell_injective : Function.Injective (kcell : Dev nD × Fin 21 → GSem nD τ sig) := fun a b h =>
  Prod.ext (congrArg (fun g : GSem nD τ sig => g.1.1) h) (csem_injective _ _ (congrArg Prod.snd h))

/-- All the cells of the exchange. -/
def exCells : Finset (GSem nD τ sig) := Finset.univ.map ⟨kcell, kcell_injective⟩

theorem exCells_eq (Φ : GSem nD τ sig → sProp 𝕄) :
    bigSep exCells Φ = bigSep Finset.univ fun c : Dev nD => bigSep Finset.univ fun k : Fin 21 => Φ (kcell (c, k)) := by
  unfold exCells; rw [bigSep_map, bigSep_univ_prod]; rfl

/-! ## The tokens -/

/-- The payments of a device: its signals, its sends as received, its fetches, its sends as sent. -/
abbrev Pay : Type := Fin 15 ⊕ Fin 15 ⊕ Fin 16 ⊕ Fin 15

/-- The cell a payment of device `c` goes to, -/
def payCell (c : Dev nD) : Pay → GSem nD τ sig
  | .inl k => barCell (peer c (k.val + 1))
  | .inr (.inl k) => rCell (peer c (k.val + 1)) c
  | .inr (.inr (.inl k)) => wCell c (par k.val)
  | .inr (.inr (.inr k)) => sCell c (par (k.val + 1))
/-- and its round. -/
def payRound : Pay → ℕ
  | .inl _ => 0
  | .inr (.inl _) => 0
  | .inr (.inr (.inl k)) => k.val / 2
  | .inr (.inr (.inr k)) => (k.val + 1 - 1) / 2

/-- The kind of the cell of a payment. -/
theorem payCell_kind (c : Dev nD) (x : Pay) : kindOf (payCell c x).2 = match x with
    | .inl _ => Kd.bar
    | .inr (.inl _) => Kd.r c
    | .inr (.inr (.inl k)) => Kd.w (par k.val)
    | .inr (.inr (.inr k)) => Kd.s (par (k.val + 1)) := by
  rcases x with k | k | k | k
  · exact kind_bar
  · exact kind_r c
  · exact kind_w _
  · exact kind_s _

theorem peer_inj (c : Dev nD) (k k' : Fin 15) (h : peer c (k.val + 1) = peer c (k'.val + 1)) : k = k' := by
  have e := congrArg Fin.val h
  have hk := k.isLt
  have hk' := k'.isLt
  change (c.val + (k.val + 1)) % 16 = (c.val + (k'.val + 1)) % 16 at e
  exact Fin.ext (by omega)

theorem par_inj (a b : ℕ) (h : par a = par b) (h' : a / 2 = b / 2) : a = b := by
  have e : a % 2 = b % 2 := congrArg Fin.val h
  omega

/-- Two payments of a device to one cell in one round are one. -/
theorem pay_inj (c : Dev nD) (x y : Pay) (h : payCell c x = payCell c y) (h' : payRound x = payRound y) : x = y := by
  have hk : kindOf (payCell c x).2 = kindOf (payCell c y).2 := by rw [h]
  have hd : (payCell c x).1.1 = (payCell c y).1.1 := by rw [h]
  rw [payCell_kind, payCell_kind] at hk
  rcases x with k | k | k | k <;> rcases y with l | l | l | l <;> try (exfalso; revert hk; simp; done)
  · exact congrArg Sum.inl (peer_inj c k l hd)
  · exact congrArg (Sum.inr ∘ Sum.inl) (peer_inj c k l hd)
  · have := par_inj k.val l.val (Kd.w.inj hk) h'
    exact congrArg (Sum.inr ∘ Sum.inr ∘ Sum.inl) (Fin.ext this)
  · have e : (k.val + 1) % 2 = (l.val + 1) % 2 := congrArg Fin.val (Kd.s.inj hk)
    have e' : (k.val + 1 - 1) / 2 = (l.val + 1 - 1) / 2 := h'
    exact congrArg (Sum.inr ∘ Sum.inr ∘ Sum.inr) (Fin.ext (by omega))

/-- The token of a payment: its cell, its round, its payer. -/
abbrev payTok (cx : Dev nD × Pay) : GSem nD τ sig × ℕ × Dev nD := (payCell cx.1 cx.2, payRound cx.2, cx.1)

theorem payTok_injective : Function.Injective payTok := fun a b h => by
  obtain ⟨c, x⟩ := a
  obtain ⟨c', y⟩ := b
  obtain rfl : c = c' := congrArg (fun t : GSem nD τ sig × ℕ × Dev nD => t.2.2) h
  exact Prod.ext rfl (pay_inj c x y (congrArg Prod.fst h) (congrArg (fun t : GSem nD τ sig × ℕ × Dev nD => t.2.1) h))

/-- All the tokens of the exchange. -/
def exToks : Finset (GSem nD τ sig × ℕ × Dev nD) := Finset.univ.map ⟨payTok, payTok_injective⟩

theorem bigSep_steps (Ψ : ℕ → sProp 𝕄) : bigSep (Finset.Ico 0 16) Ψ = bigSep Finset.univ fun k : Fin 16 => Ψ k.val := by
  rw [show Finset.Ico 0 16 = Finset.univ.map ⟨fun k : Fin 16 => k.val, fun a b h => Fin.ext h⟩ by decide, bigSep_map]; rfl

theorem purse_eq (c : Dev nD) :
    (bigSep Finset.univ fun x : Pay => dutyTok ER (payCell c x) (payRound x) c : sProp 𝕄) = purse c := by
  unfold purse fetches
  rw [bigSep_univ_sum, bigSep_univ_sum, bigSep_univ_sum, bigSep_zero, bigSep_up, bigSep_up, bigSep_steps]
  rfl

theorem exToks_eq : bigSep exToks (fun x => (dutyTok ER x.1 x.2.1 x.2.2 : sProp 𝕄)) = bigSep Finset.univ fun c : Dev nD => purse c := by
  unfold exToks
  rw [bigSep_map, bigSep_univ_prod]
  exact bigSep_congr fun c _ => purse_eq c

/-! ## What the launch deals -/

/-- What the launch starts with: the pipeline's own part, and the exchange's. -/
def u₀ : UU :=
  (initOf (Pipeline.cells cfgs cellOf_inj) (Pipeline.launchToks cfgs cellOf_inj), initOf exCells exToks)

/-- What the launch deals device `c`: the state of its cells, its places, their marks, its tokens. -/
def dealt (c : Dev nD) : sProp 𝕄 :=
  iprop((bigSep Finset.univ fun k : Fin 21 => roundState ER (Rd m) (kcell (c, k)) 0)
    ∗ (places c ∗ bigSep Finset.univ fun k : Fin 21 => reached ER (kcell (c, k)) 0) ∗ purse c)

theorem deal : BI.own (ER (initOf exCells exToks)) ⊢ (|==> bigSep Finset.univ (dealt m) : sProp 𝕄) := by
  unfold dealt places
  simp only [bigSep_sep']
  iintro HX
  imod (Rounds.fund ER (Rd m) exCells exToks) $$ HX with ⟨Hst, Hr, Hat, Htok⟩
  imodintro
  ihave Hst' := (Entails.of_eq (exCells_eq fun g => roundState ER (Rd m) g 0)) $$ Hst
  ihave Hat' := (Entails.of_eq (exCells_eq fun g => atPos ER g 0 ∅ 0)) $$ Hat
  ihave Hr' := (Entails.of_eq (exCells_eq fun g => reached ER g 0)) $$ Hr
  ihave Htok' := (Entails.of_eq exToks_eq) $$ Htok
  isplitl [Hst']; · iexact Hst'
  isplitl [Hat' Hr']
  · isplitl [Hat'] <;> iassumption
  iexact Htok'

/-! ## The counters -/

/-- The kernel's own semaphores at zero, -/
abbrev ownZeros (c : Dev nD) : sProp 𝕄 :=
  Pipeline.ownSems0 (Ix := Unit) (Name := ℕ) (U := UU) (Lvl := ℕ) (Val := Elt F) (τ := τ) osem c

theorem ownZeros_eq (c : Dev nD) : ownZeros c = (bigSep Finset.univ fun k : Fin 20 => semVal (kcell (c, k.succ)) 0 : sProp 𝕄) := rfl

/-- the barrier's too: -/
theorem barZero_eq (c : Dev nD) : (unscopedSems0 c : sProp 𝕄) = semVal (barCell c) 0 := by
  unfold unscopedSems0; rw [bigSep_eq_bigSepL_of_eq [SemLoc.reg barS] (by decide) (by decide)]; rfl

/-- together, those of all its cells. -/
theorem zeros_own (c : Dev nD) : (zeros c : sProp 𝕄) = iprop(unscopedSems0 c ∗ ownZeros c) := by
  unfold zeros
  rw [Fin.univ_succ, Finset.cons_eq_insert, bigSep_insert (by simp), bigSep_map, barZero_eq, ownZeros_eq]
  rfl

/-! ## The invariants -/

/-- That every cell of the exchange has its invariant and its first mark. -/
def known (K : Dev nD × Fin 21 → ℕ) : sProp 𝕄 :=
  iprop((bigSep Finset.univ fun ck : Dev nD × Fin 21 => cellInv ER (Rd m) (K ck) (kcell ck))
    ∗ bigSep Finset.univ fun ck : Dev nD × Fin 21 => reached ER (kcell ck) 0)

instance known_persistent (K : Dev nD × Fin 21 → ℕ) : BI.Persistent (known m K) := by unfold known; infer_instance

/-- What device `c` holds once its cells are in their invariants. -/
def ready (c : Dev nD) : sProp 𝕄 := iprop((∃ K, known m K) ∗ places c ∗ purse c)

theorem cells_alloc (c : Dev nD) :
    iprop(zeros c ∗ bigSep Finset.univ fun k : Fin 21 => roundState ER (Rd m) (kcell (c, k)) 0)
      ⊢ (|={Set.univ}=> bigSep Finset.univ fun k => iprop(∃ κ : ℕ, cellInv ER (Rd m) κ (kcell (c, k))) : sProp 𝕄) := by
  unfold zeros
  rw [← bigSep_sep']
  exact (bigSep_mono fun k _ => (Rounds.body_intro ER (Rd m) (kcell (c, k))).trans inv_alloc).trans (bigSep_fupd _ _)

/-- A device puts its cells in their invariants. -/
theorem alloc (c : Dev nD) : iprop(ownZeros c ∗ unscopedSems0 c ∗ dealt m c)
    ⊢ (|={Set.univ}=> iprop((bigSep Finset.univ fun k => iprop(∃ κ : ℕ, cellInv ER (Rd m) κ (kcell (c, k))))
        ∗ (bigSep Finset.univ fun k : Fin 21 => reached ER (kcell (c, k)) 0) ∗ places c ∗ purse c) : sProp 𝕄) := by
  unfold dealt
  iintro ⟨Ho, Hb, Hst, ⟨Hat, Hr⟩, Ht⟩
  imod (cells_alloc m c) $$ [Ho Hb Hst] with Hinv
  · isplitr [Hst]
    · iapply (Entails.of_eq (zeros_own (F := F) c).symm)
      isplitl [Hb] <;> iassumption
    iexact Hst
  imodintro
  isplitl [Hinv]; · iexact Hinv
  isplitl [Hr]; · iexact Hr
  isplitl [Hat] <;> iassumption

theorem ready_intro (K : Dev nD × Fin 21 → ℕ) (c : Dev nD) : iprop(known m K ∗ places c ∗ purse c) ⊢ ready m c := by
  unfold ready
  iintro ⟨HK, H⟩
  isplitl [HK]
  · iexists K; iexact HK
  iexact H

theorem gather :
    (bigSep Finset.univ fun c : Dev nD => iprop((bigSep Finset.univ fun k => iprop(∃ κ : ℕ, cellInv ER (Rd m) κ (kcell (c, k))))
        ∗ (bigSep Finset.univ fun k : Fin 21 => reached ER (kcell (c, k)) 0) ∗ places c ∗ purse c) : sProp 𝕄)
      ⊢ bigSep Finset.univ (ready m) := by
  rw [bigSep_sep', bigSep_sep', ← bigSep_univ_prod (fun ck : Dev nD × Fin 21 => iprop(∃ κ : ℕ, cellInv ER (Rd m) κ (kcell ck))),
    ← bigSep_univ_prod (fun ck : Dev nD × Fin 21 => (reached ER (kcell ck) 0 : sProp 𝕄))]
  iintro ⟨HI, #HR, Hown⟩
  ihave HK := (BI.bigSep_exists_pi Finset.univ (fun (ck : Dev nD × Fin 21) (κ : ℕ) => (cellInv ER (Rd m) κ (kcell ck) : sProp 𝕄))) $$ HI
  icases HK with ⟨%K, #HI⟩
  iapply (bigSep_with_persistent (R := known m K) fun c _ => ready_intro m K c)
  isplitr
  · unfold known; isplitl; · iexact HI
    iexact HR
  iexact Hown

/-- All the devices do, at once. -/
theorem allReady : (bigSep Finset.univ fun c => iprop(ownZeros c ∗ unscopedSems0 c ∗ dealt m c) : sProp 𝕄)
    ⊢ |={Set.univ}=> bigSep Finset.univ (ready m) :=
  ((bigSep_mono fun c _ => alloc m c).trans (bigSep_fupd _ _)).trans (BI.fupd_mono (gather m))

/-! ## The credits -/

theorem sum_bar : ∀ d c : Dev nD, (∑ i ∈ Finset.Ico 0 15, if c = peer d (i + 1) then 1 else 0) = if d = c then 0 else 1 := by decide
theorem sum_row : ∀ d c : Dev nD, (∑ k ∈ Finset.Ico 1 16, if c = peer d k then 1 else 0) = if d = c then 0 else 1 := by decide

theorem bar_ne_r (c d j : Dev nD) : barCell c ≠ rCell d j := fun h => by
  have e : kindOf (barCell c).2 = kindOf (rCell d j).2 := congrArg (fun g : GSem nD τ sig => kindOf g.2) h
  rw [kind_r] at e
  exact nomatch e

theorem bar_iff (c d : Dev nD) : barCell c = barCell d ↔ c = d :=
  ⟨fun h => congrArg (fun g : GSem nD τ sig => g.1.1) h, fun h => by rw [h]⟩
theorem r_iff (c d j j' : Dev nD) : rCell c j = rCell d j' ↔ c = d ∧ j = j' :=
  ⟨fun h => ⟨congrArg (fun g : GSem nD τ sig => g.1.1) h, by
    have e : kindOf (rCell c j).2 = kindOf (rCell d j').2 := congrArg (fun g : GSem nD τ sig => kindOf g.2) h
    rw [kind_r, kind_r] at e
    exact Kd.r.inj e⟩, fun h => by rw [h.1, h.2]⟩

/-- What device `d` owes device `c`'s barrier: a unit, unless it is `c`; -/
theorem owed_bar (d c : Dev nD) : O₀ d (barCell c) () = if d = c then 0 else 1 := by
  unfold O₀ Osend Osig
  rw [Pi.add_apply, Finsupp.add_apply, Finset.sum_apply, Finset.sum_apply, Finsupp.finset_sum_apply, Finsupp.finset_sum_apply,
    Finset.sum_eq_zero (s := Finset.Ico 1 16) fun i _ => by rw [tallyAt_ne_cell (bar_ne_r _ _ _)]; rfl, Nat.zero_add, ← sum_bar d c]
  refine Finset.sum_congr rfl fun i _ => ?_
  rw [tallyAt_apply]
  simp only [bar_iff, and_true]

/-- and what it owes device `c`'s receive of what device `j` sends: that, if it is `j` and not `c`. -/
theorem owed_r (d c j : Dev nD) (hj : j ≠ c) : O₀ d (rCell c j) () = if d = j then NY else 0 := by
  unfold O₀ Osend Osig
  rw [Pi.add_apply, Finsupp.add_apply, Finset.sum_apply, Finset.sum_apply, Finsupp.finset_sum_apply, Finsupp.finset_sum_apply,
    Finset.sum_eq_zero (s := Finset.Ico 0 15) fun i _ => by rw [tallyAt_ne_cell (bar_ne_r _ _ _).symm]; rfl, Nat.add_zero]
  by_cases h : d = j
  · subst h
    have e : ∑ k ∈ Finset.Ico 1 16, (if c = peer d k then 1 else 0) = 1 := by rw [sum_row, if_neg hj]
    have e' : ∑ k ∈ Finset.Ico 1 16, (if c = peer d k then 1 else 0) * NY = NY := by rw [← Finset.sum_mul, e, one_mul]
    refine Eq.trans (Finset.sum_congr rfl fun k _ => ?_) (e'.trans (if_pos rfl).symm)
    rw [tallyAt_apply]
    simp only [r_iff, and_true, ite_mul, one_mul, zero_mul]
  · rw [if_neg h]
    refine Finset.sum_eq_zero fun k _ => ?_
    rw [tallyAt_apply, if_neg]
    intro h'
    exact h ((r_iff _ _ _ _).mp h'.1).2.symm

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_r (c j : Dev nD) (hj : j ≠ c) :
    tallyOn (rCell c j) (launchCredit (Pipeline.owing O₀) 0 (rCell c j)) = (tallyAt (rCell c j) () NY : CellTallies nD τ sig Unit) := by
  unfold tallyAt; refine congrArg _ (Finsupp.ext fun u => ?_); cases u
  rw [Pipeline.launchCredit_owing, Finsupp.single_eq_same, Finset.sum_congr rfl fun d _ => owed_r d c j hj,
    Finset.sum_ite_eq' Finset.univ j fun _ => NY, if_pos (Finset.mem_univ _)]

theorem rSem_injective : Function.Injective (fun j : Dev nD => (SemLoc.dma (rSem (semAt j)) : SemLoc sig)) := fun a b h => by
  have e := congrArg kindOf h
  rw [kind_r, kind_r] at e
  exact Kd.r.inj e

/-- The credits the launch gives device `c`. -/
theorem credits_intro (c : Dev nD) : (Pipeline.launchCred O₀ c : sProp 𝕄) ⊢ credits c := by
  unfold Pipeline.launchCred credits
  rw [bigSep_univ_at _ (SemLoc.reg barS), launch_bar]
  refine sep_mono_right ?_
  refine BI.Entails.trans ?_ (Entails.of_eq (bigSep_congr (s := Finset.univ.erase c) fun j hj =>
    congrArg cred (launch_r c j (Finset.ne_of_mem_erase hj))))
  refine BI.Entails.trans ?_ (Entails.of_eq (bigSep_map (s := Finset.univ.erase c)
    ⟨fun j : Dev nD => (SemLoc.dma (rSem (semAt j)) : SemLoc sig), rSem_injective⟩
    (Φ := fun sm => cred (tallyOn ((c : Thread nD τ), sm) (launchCredit (Pipeline.owing O₀) 0 ((c : Thread nD τ), sm))))))
  refine bigSep_subset fun sm h => ?_
  obtain ⟨j, -, rfl⟩ := Finset.mem_map.mp h
  exact Finset.mem_erase.mpr ⟨nofun, Finset.mem_univ _⟩

end Cert.Exchange

end
-- ==== Proof.Exchange.Launch.lean ====
/-
# The run of the kernel on all devices

The launch stages each device's rows of the left operand, runs the bodies, and writes the results back. Every execution
ends, with each device's result the blocks the sixteen devices computed for it, both arguments as they were, and every
semaphore at zero.
-/
module

public import proofs.«01_k».proof.Proof.Exchange.Mint
public import proofs.«01_k».proof.Proof.Gen.KernelIdeal.Points
public import Idealize.ShloMosaic.Lib.Pipeline.CollectiveSegs
public import Idealize.ShloMosaic.Lib.Pipeline.ValueKit

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What the launch knows of the kernel -/

/-- What a device's body starts from, its buffers in VMEM apart, -/
def start (c : Dev nD) : sProp 𝕄 := iprop((∃ K, facts m K) ∗ places c ∗ purse c ∗ credits c ∗ wHeld m c)
/-- and with its two scratch buffers. -/
def Φ₀ (c : Dev nD) : sProp 𝕄 := iprop(start m c ∗ someBuf c cc0_scratch0 ∗ someBuf c cc0_scratch1)
/-- What it ends with. -/
def Φ₁ (c : Dev nD) : sProp 𝕄 := iprop(someBuf c cc0_scratch0 ∗ someBuf c cc0_scratch1 ∗ wHeld m c ∗ zeros c)

/-- The staged left operand before and after the body, the result after it, and what the device owes. -/
def dats (_ : Fin 1) (c : Dev nD) : Pipeline.Dat τ (Elt F) Unit ℕ UU ℕ cfg0 c where
  A w := m ((cfg0.win w).arr.view.loc (c : Thread nD τ))
  after w _ := match w with
    | ⟨0, _⟩ => xstg m c
    | ⟨1, _⟩ => outF m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-! ## The body -/

/-- A staging buffer of device `c` at `X`. -/
def staged (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

set_option maxRecDepth 4000 in
/-- What the pipeline hands the body, -/
def handed (c : Dev nD) : sProp 𝕄 :=
  iprop(Φ₀ m c ∗ (dats m 0 c).owesAt () t0_0.castSucc
    ∗ (∃ d, staged c cc0_stg0_0 ((dats m 0 c).before (0 : Fin 2) t0_0 d))
    ∗ (∃ d, staged c cc0_stg1_0 ((dats m 0 c).before (1 : Fin 2) t0_0 d)))
set_option maxRecDepth 4000 in
/-- and what it takes back. -/
def returned (c : Dev nD) : sProp 𝕄 :=
  iprop(Φ₁ m c ∗ (dats m 0 c).owesAt () t0_0.succ ∗ staged c cc0_stg0_0 (xstg m c) ∗ staged c cc0_stg1_0 (outF m c))

theorem before_x (c : Dev nD) (d) : (dats m 0 c).before (0 : Fin 2) t0_0 d = xstg m c := by
  unfold Pipeline.Dat.before; rw [if_pos (fetch0_0 t0_0)]; rfl

theorem handed_start (c : Dev nD) : handed m c ⊢ iprop(∃ K, Start m K c) := by
  unfold handed Φ₀ start staged Start owesO xPt someBuf
  unfold Pipeline.Dat.owesAt Pipeline.owesWithin
  iintro ⟨⟨⟨⟨%K, HF⟩, Hpl, Hpu, Hcr, Hw⟩, Hs0, Hs1⟩, ⟨%W, -, HO⟩, ⟨%d, %f, %hf, Hx⟩, ⟨%d', %f', -, Ho⟩⟩
  iexists K
  isplitl [HF]; · iexact HF
  isplitl [HO]
  · iexists W; iexact HO
  isplitl [Hx Ho Hs0 Hs1 Hw]
  · isplitl [Hx]
    · rw [← before_x m c d, ← hf]; iexact Hx
    isplitl [Ho]
    · iexists f'; iexact Ho
    isplitl [Hs0]; · iexact Hs0
    isplitl [Hs1]; · iexact Hs1
    iexact Hw
  isplitl [Hpl]; · iexact Hpl
  isplitl [Hpu]; · iexact Hpu
  iexact Hcr

theorem finish_returned (c : Dev nD) : Finish m c ⊢ returned m c := by
  unfold returned Φ₁ staged Finish owesO xPt
  unfold Pipeline.Dat.owesAt Pipeline.owesWithin
  iintro ⟨⟨%W, HO⟩, ⟨Hx, Ho, Hs0, Hs1, Hw⟩, Hz⟩
  isplitl [Hs0 Hs1 Hw Hz]
  · isplitl [Hs0]; · iexact Hs0
    isplitl [Hs1]; · iexact Hs1
    isplitl [Hw] <;> iassumption
  isplitl [HO]
  · iexists W
    isplitr; · (ipureintro; exact fun _ _ => Or.inl trivial)
    iexact HO
  isplitl [Hx]
  · iexists _; isplitr; · (ipureintro; rfl)
    iexact Hx
  iexists _; isplitr; · (ipureintro; rfl)
  iexact Ho

/-- The body takes what it is handed to what it is to return. -/
theorem body_run (c : Dev nD) : handed m c ⊢ wp frame (wpE (defs₀ (F := F)) 𝒱₀ (c : Thread nD τ) none) Set.univ
    (cc0_body (Memref.whole cc0_stg0_0) (Memref.isWhole_whole _) (Memref.whole main_arg1) (Memref.isWhole_whole _)
      (Memref.whole cc0_stg1_0) (Memref.isWhole_whole _) (Memref.whole cc0_scratch0) (Memref.isWhole_whole _)
      (Memref.whole cc0_scratch1) (Memref.isWhole_whole _) cc0_scratch2 cc0_scratch3 cc0_scratch4) (fun _ => returned m c) := by
  rw [body_steps, Prog.lift, Prog.bind_op, wp_deviceId, Prog.bind_ret]
  refine (handed_start m c).trans ?_
  iintro ⟨%K, H⟩
  iapply ((steps_run m K).run fun _ => returned m c)
  isplitl [H]; · iexact H
  iintro H
  iapply (finish_returned m c); iexact H

set_option maxRecDepth 16000 in
/-- What the launch asks of the body on core `c`. -/
theorem body_ok (c : Dev nD) : Pipeline.BodyObligation (dats (F := F) m 0 c) (defs₀ (F := F)) 𝒱₀ () Set.univ := fun t => by
  rw [fin_N0 t]
  rw [bigSep_W0, bigSep_W0]
  simp only [owns_whole_eq]
  exact body_run m c

/-! ## The conditions of the launch -/

theorem osem_ok : Pipeline.OwnSemFacts cfg0.spec osem := by decide

theorem share_full (c : Dev nD) (w : Fin cfg0.W) : (dats m 0 c).share w = fullShare := by
  unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m c)
      ⊢ |={Set.univ}=> iprop(start m c ∗ emp) := by
  unfold start ready known facts wHeld
  rw [Pipeline.unscopedRestP_none, unscopedRest0_eq]
  iintro ⟨Hw, Hlev, Hcr, -, ⟨%K, Hi, Hr⟩, Hpl, Hpu⟩
  ihave Hc := (credits_intro (F := F) c) $$ Hcr
  imodintro
  isplitl
  · isplitl [Hi Hr Hlev]
    · iexists K
      isplitl [Hi]; · iexact Hi
      isplitl [Hr] <;> iassumption
    isplitl [Hpl]; · iexact Hpl
    isplitl [Hpu]; · iexact Hpu
    isplitl [Hc] <;> iassumption
  · iempintro

theorem enter_body (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ someBuf
  iintro ⟨Hs, -, H0, H1⟩
  isplitl [Hs]; · iexact Hs
  isplitl [H0] <;> iassumption

theorem leave_body (c : Dev nD) :
    (dats m 0 c).Φ (Fin.last cfg0.N) ⊢ iprop((unscopedSems0 c ∗ wHeld m c) ∗ Pipeline.ownSems0 osem c ∗ Pipeline.scopedRest cfg0.spec c) := by
  rw [show (dats m 0 c).Φ (Fin.last cfg0.N) = Φ₁ m c from rfl, scopedRest0_eq]
  unfold Φ₁ someBuf
  rw [zeros_own]
  iintro ⟨H0, H1, Hw, Hb, Ho⟩
  isplitl [Hb Hw]
  · isplitl [Hb] <;> iassumption
  isplitl [Ho]; · iexact Ho
  isplitl [H0] <;> iassumption

theorem stage_lv : ∀ (w : Fin 2) (s : Fin (spec0 w).nbuf) (c : Dev nD), lv ((c : Thread nD τ), .dma ((spec0 w).sem s)) () = 0 := by
  decide

theorem stage_waits (c : Dev nD) : (levAts L lv : sProp 𝕄) ⊢ Pipeline.cellsWaits cfgs (dats m) () 0 c :=
  Pipeline.cellsWaits_intro cfgs (dats m) () 0 c fun w s t =>
    mayWait_low c _ (stage_lv w s c) _ (by
      rcases t with ⟨_ | _, ht⟩
      · exact Or.inl rfl
      · exact Or.inr ⟨16, (Osend_end c).symm⟩)

/-! ## The run -/

/-- The array of window `w` of device `c` at the end. -/
def lastA (c : Dev nD) (w : Fin cfg0.W) : Buf (Elt F) ((cfg0.win w).arr.view.loc (c : Thread nD τ)) := (dats m 0 c).arrAt w cfg0.N

/-- What is read at the end of device `c`: its barrier at zero and its weights as they were. -/
def ends (c : Dev nD) (s : MemSt nD τ sig (Elt F)) : Prop :=
  (∀ sm : SemLoc sig, sm.isScoped .tc = false → s.sem ((c.tc : Thread nD τ), sm) = 0)
    ∧ s.mem ((c : Thread nD τ).loc main_arg1) = wAll m c

theorem read_end (c : Dev nD) (s' : Phys nD τ sig (Elt F)) :
    iprop((unscopedSems0 c ∗ wHeld m c) ∗ emp ∗ SI s') ⊢ (|={Set.univ}=> iprop(⌜ends m c s'.mem⌝ ∗ SI s') : sProp 𝕄) := by
  unfold wHeld
  iintro ⟨⟨Hu, Hw⟩, -, HSI⟩
  icombine HSI Hw gives %hw
  imod (Pipeline.unscopedSems0_read (X := unscopedSems0 c) (c := c) fupd_intro s') $$ [Hu HSI] with ⟨%hs, HSI⟩
  · isplitl [Hu] <;> iassumption
  imodintro
  isplitr
  · ipureintro; exact ⟨hs, Buf.eq_of_forall_mem_univ hw⟩
  iexact HSI

set_option maxRecDepth 8000 in
/-- On the sixteen devices, from any memory with zero counters, every execution ends, with the windows' arrays at what
    the bodies leave, the weights as they were and every counter at zero. -/
theorem run_main : θ_run defs (onTc (τ := τ) (main (F := F))) ⟨m, fun _ => 0, ρ⟩ (fun r =>
    (∀ c : Dev nD, (∀ w : Fin cfg0.W, r.2.mem ((cfg0.win w).arr.view.loc (c : Thread nD τ)) = lastA m c w)
      ∧ r.2.mem ((c : Thread nD τ).loc main_arg1) = wAll m c) ∧ r.2.sem = fun _ => 0) :=
  Pipeline.θ_run_region_owing_glob_pf (fun p => (cfgs p).toPCfg) (fun p => (cfgs p).toPCfg_adm) (dats m) () cellOf_inj (0 : Fin 1)
    winFacts0.to₀ osem_ok (Pipeline.PreFacts.none _) EP defs₀ 𝒱₀ m ρ main
    (hmain := fun _ => rfl)
    (hbody := body_ok m) (hne := block_pos0) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := stage_waits m)
    (G := dealt m) (G' := ready m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := allReady m)
    (hA := fun _ _ => rfl) (hpf := fun _ k => k.elim0)
    (X := start m) (Y := fun c => iprop(unscopedSems0 c ∗ wHeld m c)) (Z := fun _ => iprop(emp))
    (hX := start_intro m ρ) (hin := enter_body m) (hout := leave_body m)
    (QY := ends m) (hY := read_end m)
    (hQ := fun _ h hs => ⟨fun c => ⟨(h c).1, (h c).2.2.2⟩, sem_eq_zero hs fun c => (h c).2.2.1⟩)

/-- The left operand is as it was, -/
theorem lastA_x (c : Dev nD) : lastA m c (0 : Fin 2) = m ((c : Thread nD τ).loc main_arg0) :=
  (dats (F := F) m 0 c).arrAt_in (0 : Fin 2) rfl _

/-- and the result is the blocks computed for the device. -/
theorem lastA_out (c : Dev nD) : lastA m c (1 : Fin 2) = outF m c :=
  (dats (F := F) m 0 c).arrAt_eq_of_after_last (1 : Fin 2) t0_0 (by decide +kernel) (outF m c) fun j => rfl

end Cert.Exchange

end
-- ==== Proof.Exchange.Value.lean ====
/-
# The result against the reference

In exact arithmetic the blocks of device `c`'s result, below one another, are columns `512 c` on of the whole product's
ReLU: each block is its device's rows of the left operand times those columns of the right one.
-/
module

public import proofs.«01_k».proof.Proof.Exchange.Launch
public import proofs.«01_k».proof.Proof.Gen.ReferenceIdeal.Run
public import Idealize.ShloMosaic.Lib.Layout
public import Idealize.ShloMosaic.Lib.MatmulPlain
public import Idealize.ShloMosaic.Lib.StackMember
public import Idealize.ShloMosaic.Lib.KernelVsHost

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ)

/-- Zero as both programs print it. -/
abbrev zeroF : Ideal .f32 := Scalar.ofBits (F := Ideal) .f32 0x00000000#32

/-- The ReLU of a row of one matrix times a column of another. -/
def entry {M N : ℕ} (x : FVec Ideal ⟨2, ![M, 4096]⟩ .f32) (w : FVec Ideal ⟨2, ![4096, N]⟩ .f32) (a : Fin M) (b : Fin N) :
    Ideal .f32 :=
  FloatOps.maximumf (F := Ideal) (φ := .f32) (∑ k : Fin 4096, x (ValueIdx.ix2 a k) * w (ValueIdx.ix2 k b)) zeroF

/-- What a device computes, at an index. -/
theorem relu_apply (x : Vec Ideal S256x4096 .f32) (w : Vec Ideal S4096x512 .f32) (a : Fin 256) (b : Fin 512) :
    relu x (shapeCast S1x4096x512 w casts_w) (ValueIdx.ix2 a b) = entry x w a b := by
  have hw : shapeCast S4096x512 (shapeCast S1x4096x512 w casts_w) shapeCasts_S1x4096x512_S4096x512 = w := funext fun y => by
    show w (Shape.reshapeEquiv _ (Shape.reshapeEquiv _ y)) = w y
    rw [Shape.reshapeEquiv_reshapeEquiv, Shape.reshapeEquiv_self]
  have hx : shapeCast S256x4096 x shapeCasts_S256x4096_S256x4096 = x := funext fun y => by
    show x (Shape.reshapeEquiv _ y) = x y
    rw [Shape.reshapeEquiv_self]
  show FloatOps.maximumf (matmul dot_S256x4096_S4096x512_S256x512_1_0_0_1_n_n none
    (shapeCast S256x4096 x shapeCasts_S256x4096_S256x4096)
    (shapeCast S4096x512 (shapeCast S1x4096x512 w casts_w) shapeCasts_S1x4096x512_S4096x512)
    (constant S256x512 .f32 0x00000000#32) (ValueIdx.ix2 a b)) zeroF = _
  rw [hw, hx, matmul_zero_eq_dotGeneral]
  exact congrArg (FloatOps.maximumf · zeroF) (StackMember.dotGeneral_plain_apply none x w a b)

/-- What the reference computes, at an index. -/
theorem reference_apply (x : FVec Ideal Cert.ReferenceIdeal.S4096x4096 .f32) (w : FVec Ideal Cert.ReferenceIdeal.S4096x8192 .f32)
    (a : Fin 4096) (b : Fin 8192) :
    maximumf (Host.dotGeneral Cert.ReferenceIdeal.dot_S4096x4096_S4096x8192_S4096x8192_1_0_0_1_n_n none x w)
      (broadcastInDim Cert.ReferenceIdeal.S4096x8192 ![] Cert.ReferenceIdeal.Facts₀.bcast_S_S4096x8192
        (constant Cert.ReferenceIdeal.S_ .f32 0x00000000#32)) (ValueIdx.ix2 a b) = entry x w a b :=
  congrArg (FloatOps.maximumf · zeroF) (StackMember.dotGeneral_plain_apply none x w a b)

/-- The staged rows are the device's array. -/
theorem xstg_apply (j : Dev nD) (a : Fin 256) (k : Fin 4096) : xstg m j (ValueIdx.ix2 a k) = m ((j : Thread nD τ).loc main_arg0) (ValueIdx.ix2 a k) := by
  show m ((j : Thread nD τ).loc main_arg0) ((win0_0.blk (0 : Fin 1)).view.emb (ValueIdx.ix2 a k)) = _
  refine congrArg _ (funext fun b => Fin.ext ?_)
  match b with
  | ⟨0, _⟩ =>
    exact (ValueKit.view_emb_slice_whole_unit_val main_arg0 _ _ _ (ValueIdx.ix2 a k) (0 : Fin 2)).trans (Nat.zero_add _)
  | ⟨1, _⟩ =>
    exact (ValueKit.view_emb_slice_whole_unit_val main_arg0 _ _ _ (ValueIdx.ix2 a k) (1 : Fin 2)).trans (Nat.zero_add _)

/-- The fetched columns, in the whole weights. -/
theorem cols_apply (c : Dev nD) (w : (main_arg1 : Ref sig .tc).ty.Contents (Elt Ideal)) (k : Fin 4096) (b : Fin 512) :
    (wCols (colAt c)).view.read (Elt Ideal) w (ValueIdx.ix2 k b)
      = w (ValueIdx.ix2 k (⟨512 * c.val + b.val, by have := c.isLt; change c.val < 16 at this; omega⟩ : Fin 8192)) := by
  show w ((wCols (colAt c)).view.emb (ValueIdx.ix2 k b)) = _
  refine congrArg w (funext fun a => Fin.ext ?_)
  match a with
  | ⟨0, _⟩ =>
    exact (ValueKit.view_emb_slice_whole_unit_val main_arg1 _ _ _ (ValueIdx.ix2 k b) (0 : Fin 2)).trans (Nat.zero_add _)
  | ⟨1, _⟩ => exact ValueKit.view_emb_slice_whole_unit_val main_arg1 _ _ _ (ValueIdx.ix2 k b) (1 : Fin 2)

/-- Device `c`'s result is its columns of the reference's, when every device holds its rows of the left operand and the
    whole of the right one. -/
theorem outF_eq (X : FVec Ideal Cert.ReferenceIdeal.S4096x4096 .f32) (W : FVec Ideal Cert.ReferenceIdeal.S4096x8192 .f32)
    (hX : ∀ j : Dev nD, m ((j : Thread nD τ).loc main_arg0) = Layout.block ⟨2, ![256, 4096]⟩ ⟨2, ![4096, 4096]⟩ 0 16 j X)
    (hW : ∀ j : Dev nD, m ((j : Thread nD τ).loc main_arg1) = W) (c : Dev nD) :
    outF m c = Layout.block ⟨2, ![4096, 512]⟩ ⟨2, ![4096, 8192]⟩ 1 16 c
      (maximumf (Host.dotGeneral Cert.ReferenceIdeal.dot_S4096x4096_S4096x8192_S4096x8192_1_0_0_1_n_n none X W)
        (broadcastInDim Cert.ReferenceIdeal.S4096x8192 ![] Cert.ReferenceIdeal.Facts₀.bcast_S_S4096x8192
          (constant Cert.ReferenceIdeal.S_ .f32 0x00000000#32))) := by
  funext i
  have hc : c.val < 16 := c.isLt
  have h0 : (i 0).val < 4096 := (i 0).isLt
  have h1 : (i 1).val < 512 := (i 1).isLt
  have hi : rowIdx i = ValueIdx.ix2 (⟨(i 0).val % 256, by omega⟩ : Fin 256) (⟨(i 1).val, h1⟩ : Fin 512) := funext fun a => by
    match a with
    | ⟨0, _⟩ => rfl
    | ⟨1, _⟩ => rfl
  rw [Layout.block_apply]
  refine Eq.trans ?_ ((congrArg _ (?_ : Layout.Tiles.idx _ c i
    = ValueIdx.ix2 (⟨(i 0).val, h0⟩ : Fin 4096) (⟨512 * c.val + (i 1).val, by omega⟩ : Fin 8192))).trans
      (reference_apply X W _ _)).symm
  · show relu _ _ (rowIdx i) = _
    rw [hi, relu_apply]
    refine congrArg (FloatOps.maximumf · zeroF) (Finset.sum_congr rfl fun k _ => ?_)
    rw [cols_apply, xstg_apply, hX]
    refine congrArg₂ (· * ·) ((Layout.block_apply ..).trans (congrArg X (funext fun a => Fin.ext ?_))) (congrFun (hW _) _)
    match a with
    | ⟨0, _⟩ =>
      refine (Layout.idx_rows_val _ _ _).1.trans ?_
      show (i 0).val / 256 * 256 + (i 0).val % 256 = (i 0).val
      omega
    | ⟨1, _⟩ => exact (Layout.idx_rows_val _ _ _).2
  · refine funext fun a => Fin.ext ?_
    match a with
    | ⟨0, _⟩ => exact (Layout.idx_cols_val _ _ _).1
    | ⟨1, _⟩ => exact (Layout.idx_cols_val _ _ _).2.trans (by show c.val * 512 + _ = _; rw [Nat.mul_comm])

end Cert.Exchange

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Exchange.Launch
public import proofs.«01_k».proof.Proof.Exchange.Value
public import Idealize.ShloMosaic.Adequacy
public import Idealize.ShloMosaic.Init

@[expose] public section

noncomputable section

namespace Cert.Proof

open Idealize.ShloMosaic Idealize.SL.Sem Cert.Exchange

/-- What the kernel's frame says of a run from `m`, over any scalars. -/
def Keeps (F : FTy → Type) [FloatOps F] (m : (ℓ : Loc Cert.KernelIdeal.nD Cert.KernelIdeal.τ Cert.KernelIdeal.sig) → Buf (Elt F) ℓ)
    (ρ : Dev Cert.KernelIdeal.nD → PrngReg) : Prop :=
  θ_run (Cert.KernelIdeal.defs (F := F)) (onTc (τ := Cert.KernelIdeal.τ) (Cert.KernelIdeal.main (F := F)))
    ⟨m, fun _ => 0, ρ⟩ (fun r => (∀ c : Dev Cert.KernelIdeal.nD,
      r.2.mem (c.tc.loc Cert.KernelIdeal.main_arg0) = m (c.tc.loc Cert.KernelIdeal.main_arg0)
        ∧ r.2.mem (c.tc.loc Cert.KernelIdeal.main_arg1) = m (c.tc.loc Cert.KernelIdeal.main_arg1))
      ∧ r.2.sem = fun _ => 0)

/-- The kernel keeps its arguments and leaves every counter at zero; -/
theorem keeps {F : FTy → Type} [FloatOps F] (m : (ℓ : Loc Cert.KernelIdeal.nD Cert.KernelIdeal.τ Cert.KernelIdeal.sig) → Buf (Elt F) ℓ)
    (ρ : Dev Cert.KernelIdeal.nD → PrngReg) : Keeps F m ρ :=
  (θ_run Cert.KernelIdeal.defs _ _).mono
    (fun _ h => ⟨fun c => ⟨((h.1 c).1 (0 : Fin 2)).trans (lastA_x m c), (h.1 c).2⟩, h.2⟩) (run_main m ρ)

/-- the program at the bits is the same text under another name, so it does at the bits -/
theorem same_text : (∀ m ρ, Pre_Kernel m → Keeps Bits m ρ) = Cert.quiescent_Kernel := by sl_kernel_rfl

theorem frame_kernel : Cert.quiescent_Kernel := same_text.mp fun m ρ _ => keeps m ρ

/-- and in exact arithmetic. -/
theorem frame_ideal : Cert.quiescent_KernelIdeal := fun m ρ _ => keeps m ρ

/-- The reference keeps its arguments, and has no counter. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- Every device ends with its columns of the reference's result. -/
theorem equal : Cert.algebraic_KernelIdeal_ReferenceIdeal := fun m ρ m' ρ' _ agree =>
  ⟨_, (θ_run Cert.KernelIdeal.defs _ _).mono
      (fun _ h c => ⟨((h.1 c).1 (1 : Fin 2)).trans ((lastA_out m c).trans
          (outF_eq m _ _ (fun j => (agree j).1) (fun j => (agree j).2) c)),
        ((h.1 c).1 (0 : Fin 2)).trans (lastA_x m c), (h.1 c).2⟩) (run_main (F := Ideal) m ρ),
    (θ_run Cert.ReferenceIdeal.defs _ _).mono (fun _ h => h _) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, equal⟩

end Cert.Proof

end
